-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_z_i_below_infinity [hPre_z_i_below_infinity : Cert.Pre_z_i_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_z_i_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_z_i_below_infinity [hPre_z_i_below_infinity : Cert.Pre_z_i_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_z_i_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_z_i_below_infinity [hKernelIdeal : Cert.KernelIdeal.Facts] [hPre_z_i_below_infinity : Cert.Pre_z_i_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_z_i_below_infinity m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_z_i_below_infinity [hReferenceIdeal : Cert.ReferenceIdeal.Facts] [hPre_z_i_below_infinity : Cert.Pre_z_i_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_z_i_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_z_i_below_infinity [hKernelIdeal : Cert.KernelIdeal.Facts] [hReferenceIdeal : Cert.ReferenceIdeal.Facts] [hPre_z_i_below_infinity : Cert.Pre_z_i_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_z_i_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_z_i_below_infinity : Cert.Pre_z_i_below_infinity.Facts),
    quiescent_Kernel (hKernel := hKernel)
    ∧ quiescent_KernelIdeal (hKernelIdeal := hKernelIdeal)
    ∧ quiescent_KernelIdeal_pre_z_i_below_infinity (hKernelIdeal := hKernelIdeal) (hPre_z_i_below_infinity := hPre_z_i_below_infinity)
    ∧ quiescent_ReferenceIdeal (hReferenceIdeal := hReferenceIdeal)
    ∧ quiescent_ReferenceIdeal_pre_z_i_below_infinity (hReferenceIdeal := hReferenceIdeal) (hPre_z_i_below_infinity := hPre_z_i_below_infinity)
    ∧ preserves_Kernel_KernelIdeal
    ∧ algebraic_KernelIdeal_ReferenceIdeal_pre_z_i_below_infinity (hKernelIdeal := hKernelIdeal) (hReferenceIdeal := hReferenceIdeal) (hPre_z_i_below_infinity := hPre_z_i_below_infinity)
-- ==== Pre_z_i_below_infinity.lean ====
abbrev S16384x300 : Shape := ⟨2, ![16384, 300]⟩
abbrev S16384x1 : Shape := ⟨2, ![16384, 1]⟩
abbrev S_ : Shape := ⟨0, ![]⟩

class Facts : Prop where
  bcast_S_S16384x300 : S_.BroadcastsInDim S16384x300 (![] : Fin 0 → Fin S16384x300.rank)
  reducesTo_S16384x300_S_d0_1 : S16384x300.ReducesTo [0, 1] S_
  h_S_ : 0 < S_.numel

variable [Facts]

def fn {F : FTy → Type} [FloatOps F] (main_arg0 : FVec F S16384x300 .f32) (main_arg1 : FVec F S16384x300 .f32) (main_arg2 : FVec F S16384x1 .f32) (main_arg3 : FVec F S16384x1 .f32) : IVec S_ 1 :=
  let main_cst : FVec F S_ .f32 := constant S_ .f32 0x7F800000#32
  let main_v0 : FVec F S16384x300 .f32 := broadcastInDim S16384x300 ![] bcast_S_S16384x300 main_cst
  let main_v1 : IVec S16384x300 1 := cmpf .olt main_arg0 main_v0
  let main_c : IVec S_ 1 := constantI S_ 1 1#1
  let main_v2 : IVec S_ 1 := (fun x v => Host.reduce IntOp.andi x v reducesTo_S16384x300_S_d0_1 h_S_) main_v1 main_c
  main_v2
-- ==== Kernel.lean ====
abbrev S16384x300 : Shape := ⟨2, ![16384, 300]⟩
abbrev S16384x1 : Shape := ⟨2, ![16384, 1]⟩
abbrev S256x300 : Shape := ⟨2, ![256, 300]⟩
abbrev S256x1 : Shape := ⟨2, ![256, 1]⟩
abbrev S256 : Shape := ⟨1, ![256]⟩
abbrev S16384 : Shape := ⟨1, ![16384]⟩
abbrev S32x16 : Shape := ⟨2, ![32, 16]⟩
abbrev S128x300 : Shape := ⟨2, ![128, 300]⟩
abbrev S128 : Shape := ⟨1, ![128]⟩
abbrev S16 : Shape := ⟨1, ![16]⟩
abbrev S_ : Shape := ⟨0, ![]⟩
abbrev S1x16 : Shape := ⟨2, ![1, 16]⟩

abbrev nBuf : Table → Nat
  | .hbm => 14
  | .local .tc .vmem => 14
  | .local .scVector .vmem => 4
  | _ => 0

abbrev bufTy : (tb : Table) → Fin (nBuf tb) → BufTy
  | .hbm, ⟨0, _⟩ => ⟨S16384x300, .f32⟩
  | .hbm, ⟨1, _⟩ => ⟨S16384x300, .f32⟩
  | .hbm, ⟨2, _⟩ => ⟨S16384x1, .f32⟩
  | .hbm, ⟨3, _⟩ => ⟨S16384x1, .f32⟩
  | .hbm, ⟨4, _⟩ => ⟨S16384x300, .f32⟩
  | .hbm, ⟨5, _⟩ => ⟨S16384x300, .f32⟩
  | .hbm, ⟨6, _⟩ => ⟨S16384x1, .i32⟩
  | .hbm, ⟨7, _⟩ => ⟨S16384, .i32⟩
  | .hbm, ⟨8, _⟩ => ⟨S32x16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local .tc .vmem, ⟨0, _⟩ => ⟨S256x300, .f32⟩
  | .local .tc .vmem, ⟨1, _⟩ => ⟨S256x300, .f32⟩
  | .local .tc .vmem, ⟨2, _⟩ => ⟨S256x300, .f32⟩
  | .local .tc .vmem, ⟨3, _⟩ => ⟨S256x300, .f32⟩
  | .local .tc .vmem, ⟨4, _⟩ => ⟨S256x1, .f32⟩
  | .local .tc .vmem, ⟨5, _⟩ => ⟨S256x1, .f32⟩
  | .local .tc .vmem, ⟨6, _⟩ => ⟨S256x1, .f32⟩
  | .local .tc .vmem, ⟨7, _⟩ => ⟨S256x1, .f32⟩
  | .local .tc .vmem, ⟨8, _⟩ => ⟨S256x300, .f32⟩
  | .local .tc .vmem, ⟨9, _⟩ => ⟨S256x300, .f32⟩
  | .local .tc .vmem, ⟨10, _⟩ => ⟨S256x300, .f32⟩
  | .local .tc .vmem, ⟨11, _⟩ => ⟨S256x300, .f32⟩
  | .local .tc .vmem, ⟨12, _⟩ => ⟨S256x1, .i32⟩
  | .local .tc .vmem, ⟨13, _⟩ => ⟨S256x1, .i32⟩
  | .local .scVector .vmem, ⟨0, _⟩ => ⟨S128x300, .f32⟩
  | .local .scVector .vmem, ⟨1, _⟩ => ⟨S128x300, .f32⟩
  | .local .scVector .vmem, ⟨2, _⟩ => ⟨S128, .i32⟩
  | .local .scVector .vmem, ⟨3, _⟩ => ⟨S16, .f32⟩
  | _, _ => ⟨S16384x300, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v0_0_scv : Ref sig .scVector := ⟨.hbm, 4, rfl⟩
abbrev main_v0_1_scv : Ref sig .scVector := ⟨.hbm, 5, rfl⟩
abbrev main_v1_scv : Ref sig .scVector := ⟨.hbm, 7, rfl⟩
abbrev main_v2_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

@[reducible] def k1_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k1_off1 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v7 : BitVec 32 := Scalar.muli v1 c512_i32
  let c0_i32 : BitVec 32 := 0#32
  let c1_i32 : BitVec 32 := 1#32
  let arg10 : BitVec 32 := Scf.iv c0_i32 c1_i32 k1_t1
  let c128_i32 : BitVec 32 := 128#32
  let v8 : BitVec 32 := Scalar.muli arg10 c128_i32
  let v9 : BitVec 32 := Scalar.addi v7 v8
  let c0_i32_4_r0 : BitVec 32 := 0#32
  ![v9.toNat, 0]
def k1_off2 (i : grid1.Coords) (k1_t1 : Fin k1_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v7 : BitVec 32 := Scalar.muli v1 c512_i32
  let c0_i32 : BitVec 32 := 0#32
  let c1_i32 : BitVec 32 := 1#32
  let arg10 : BitVec 32 := Scf.iv c0_i32 c1_i32 k1_t1
  let c128_i32 : BitVec 32 := 128#32
  let v8 : BitVec 32 := Scalar.muli arg10 c128_i32
  let v9 : BitVec 32 := Scalar.addi v7 v8
  ![v9.toNat]
@[reducible] def k1_t2_loop : Scf.Loop 32 :=
  let c0_i32_1 : BitVec 32 := 0#32
  let c8_i32 : BitVec 32 := 8#32
  let v10 : BitVec 32 := Scalar.addi c0_i32_1 c8_i32
  let c1_i32_2 : BitVec 32 := 1#32
  ⟨c0_i32_1, v10, c1_i32_2⟩
def k1_off3 (k1_t2 : Fin k1_t2_loop.trips) : Fin 1 → Nat :=
  let c0_i32_1 : BitVec 32 := 0#32
  let c1_i32_2 : BitVec 32 := 1#32
  let arg12 : BitVec 32 := Scf.iv c0_i32_1 c1_i32_2 k1_t2
  let c16_i32_5 : BitVec 32 := 16#32
  let v15 : BitVec 32 := Scalar.muli arg12 c16_i32_5
  let v16 : Index := Scalar.indexCast v15
  ![v16.toNat]
@[reducible] def k1_t3_loop : Scf.Loop 32 :=
  let c0_i32_7 : BitVec 32 := 0#32
  let c300_i32 : BitVec 32 := 300#32
  let v19 : BitVec 32 := Scalar.addi c0_i32_7 c300_i32
  let c1_i32_8 : BitVec 32 := 1#32
  ⟨c0_i32_7, v19, c1_i32_8⟩

def k1_chk1 (v14 : IVec S16 32) (v32 : IVec S16 32) : Prop :=
  (∀ a x, ((![v14, v32] : Fin 2 → IVec S16 32) a x).toNat < S128x300.size a)
theorem k1_idx1_inb : ∀ (v14 : IVec S16 32) (v32 : IVec S16 32) (k1_hw1 : k1_chk1 v14 v32), ∀ a x, ((![v14, v32] : Fin 2 → IVec S16 32) a x).toNat < S128x300.size a := fun v14 v32 k1_hw1 => k1_hw1

def k1_chk2 (v14 : IVec S16 32) (v34 : IVec S16 32) : Prop :=
  (∀ a x, ((![v14, v34] : Fin 2 → IVec S16 32) a x).toNat < S128x300.size a)
theorem k1_idx2_inb : ∀ (v14 : IVec S16 32) (v34 : IVec S16 32) (k1_hw2 : k1_chk2 v14 v34), ∀ a x, ((![v14, v34] : Fin 2 → IVec S16 32) a x).toNat < S128x300.size a := fun v14 v34 k1_hw2 => k1_hw2
def k1_off4 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_1_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x300 : Shape := ⟨2, ![16384, 300]⟩
abbrev S16384x1 : Shape := ⟨2, ![16384, 1]⟩
abbrev S_ : Shape := ⟨0, ![]⟩
abbrev S16384 : Shape := ⟨1, ![16384]⟩
abbrev S300 : Shape := ⟨1, ![300]⟩
abbrev S1x300 : Shape := ⟨2, ![1, 300]⟩
abbrev S16384x300x1 : Shape := ⟨3, ![16384, 300, 1]⟩

abbrev nBuf : Space → Nat
  | .hbm => 115
  | .vmem => 0
  | .smem => 0
  | _ => 0

abbrev bufTy : (tb : Table) → Fin (tcTables nBuf tb) → BufTy
  | .hbm, ⟨0, _⟩ => ⟨S16384x300, .f32⟩
  | .hbm, ⟨1, _⟩ => ⟨S16384x300, .f32⟩
  | .hbm, ⟨2, _⟩ => ⟨S16384x1, .f32⟩
  | .hbm, ⟨3, _⟩ => ⟨S16384x1, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1, .f32⟩
  | .hbm, ⟨10, _⟩ => ⟨S16384x1, .i32⟩
  | .hbm, ⟨11, _⟩ => ⟨S16384, .i32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S16384x300, .f32⟩
  | .hbm, ⟨19, _⟩ => ⟨S16384x300, .f32⟩
  | .hbm, ⟨20, _⟩ => ⟨S16384x300, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x1, .f32⟩
  | .hbm, ⟨25, _⟩ => ⟨S16384x300, .f32⟩
  | .hbm, ⟨26, _⟩ => ⟨S16384x300, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x300, .f32⟩
  | .hbm, ⟨34, _⟩ => ⟨S16384x300, .f32⟩
  | .hbm, ⟨35, _⟩ => ⟨S16384x300, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x300, .f32⟩
  | .hbm, ⟨40, _⟩ => ⟨S16384x300, .f32⟩
  | .hbm, ⟨41, _⟩ => ⟨S16384, .i32⟩
  | .hbm, ⟨42, _⟩ => ⟨S300, .i32⟩
  | .hbm, ⟨43, _⟩ => ⟨S1x300, .i32⟩
  | .hbm, ⟨44, _⟩ => ⟨S16384x1, .i32⟩
  | .hbm, ⟨45, _⟩ => ⟨S16384x300, .i32⟩
  | .hbm, ⟨46, _⟩ => ⟨S16384x300, .i32⟩
  | .hbm, ⟨47, _⟩ => ⟨S16384x300, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S16384x300, .i32⟩
  | .hbm, ⟨55, _⟩ => ⟨S16384x300, .i32⟩
  | .hbm, ⟨56, _⟩ => ⟨S_, .i32⟩
  | .hbm, ⟨57, _⟩ => ⟨S16384x300, .i32⟩
  | .hbm, ⟨58, _⟩ => ⟨S16384x300, .i1⟩
  | .hbm, ⟨59, _⟩ => ⟨S_, .i32⟩
  | .hbm, ⟨60, _⟩ => ⟨S16384x300, .i32⟩
  | .hbm, ⟨61, _⟩ => ⟨S16384x300, .i1⟩
  | .hbm, ⟨62, _⟩ => ⟨S_, .i32⟩
  | .hbm, ⟨63, _⟩ => ⟨S_, .i1⟩
  | .hbm, ⟨64, _⟩ => ⟨S16384x300, .i1⟩
  | .hbm, ⟨65, _⟩ => ⟨S16384x300, .i1⟩
  | .hbm, ⟨66, _⟩ => ⟨S16384x300, .i1⟩
  | .hbm, ⟨67, _⟩ => ⟨S16384x300, .i32⟩
  | .hbm, ⟨68, _⟩ => ⟨S16384x300, .i32⟩
  | .hbm, ⟨69, _⟩ => ⟨S16384x300, .i32⟩
  | .hbm, ⟨70, _⟩ => ⟨S_, .i32⟩
  | .hbm, ⟨71, _⟩ => ⟨S16384x300, .i32⟩
  | .hbm, ⟨72, _⟩ => ⟨S16384x300, .i1⟩
  | .hbm, ⟨73, _⟩ => ⟨S_, .i32⟩
  | .hbm, ⟨74, _⟩ => ⟨S16384x300, .i32⟩
  | .hbm, ⟨75, _⟩ => ⟨S16384x300, .i32⟩
  | .hbm, ⟨76, _⟩ => ⟨S16384x300, .i32⟩
  | .hbm, ⟨77, _⟩ => ⟨S16384x300x1, .i32⟩
  | .hbm, ⟨78, _⟩ => ⟨S16384x300, .f32⟩
  | .hbm, ⟨79, _⟩ => ⟨S_, .i32⟩
  | .hbm, ⟨80, _⟩ => ⟨S16384, .i32⟩
  | .hbm, ⟨81, _⟩ => ⟨S16384, .i1⟩
  | .hbm, ⟨82, _⟩ => ⟨S1x300, .i32⟩
  | .hbm, ⟨83, _⟩ => ⟨S16384x1, .i32⟩
  | .hbm, ⟨84, _⟩ => ⟨S16384x300, .i32⟩
  | .hbm, ⟨85, _⟩ => ⟨S16384x300, .i32⟩
  | .hbm, ⟨86, _⟩ => ⟨S16384x300, .i1⟩
  | .hbm, ⟨87, _⟩ => ⟨S_, .i32⟩
  | .hbm, ⟨88, _⟩ => ⟨S16384, .i32⟩
  | .hbm, ⟨89, _⟩ => ⟨S16384, .i1⟩
  | .hbm, ⟨90, _⟩ => ⟨S_, .i32⟩
  | .hbm, ⟨91, _⟩ => ⟨S16384, .i32⟩
  | .hbm, ⟨92, _⟩ => ⟨S16384, .i32⟩
  | .hbm, ⟨93, _⟩ => ⟨S1x300, .i32⟩
  | .hbm, ⟨94, _⟩ => ⟨S16384x1, .i32⟩
  | .hbm, ⟨95, _⟩ => ⟨S16384x300, .i32⟩
  | .hbm, ⟨96, _⟩ => ⟨S16384x300, .i32⟩
  | .hbm, ⟨97, _⟩ => ⟨S16384x300, .i1⟩
  | .hbm, ⟨98, _⟩ => ⟨S_, .i1⟩
  | .hbm, ⟨99, _⟩ => ⟨S300, .i1⟩
  | .hbm, ⟨100, _⟩ => ⟨S16384x300, .i1⟩
  | .hbm, ⟨101, _⟩ => ⟨S16384x300, .i1⟩
  | .hbm, ⟨102, _⟩ => ⟨S16384x300, .i1⟩
  | .hbm, ⟨103, _⟩ => ⟨S16384x300, .i1⟩
  | .hbm, ⟨104, _⟩ => ⟨S16384x300, .i1⟩
  | .hbm, ⟨105, _⟩ => ⟨S16384x300, .f32⟩
  | .hbm, ⟨106, _⟩ => ⟨S16384x300, .f32⟩
  | .hbm, ⟨107, _⟩ => ⟨S16384x300, .f32⟩
  | .hbm, ⟨108, _⟩ => ⟨S_, .f32⟩
  | .hbm, ⟨109, _⟩ => ⟨S16384, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S16384x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_call1_cst_0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_cst_1 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v26 : Ref sig .tc := ⟨.hbm, 69, rfl⟩
abbrev main_c_3 : Ref sig .tc := ⟨.hbm, 70, rfl⟩
abbrev main_v27 : Ref sig .tc := ⟨.hbm, 71, rfl⟩
abbrev main_v28 : Ref sig .tc := ⟨.hbm, 72, rfl⟩
abbrev main_c_4 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c_5 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_6 : Ref sig .tc := ⟨.hbm, 87, rfl⟩
abbrev main_v41 : Ref sig .tc := ⟨.hbm, 88, rfl⟩
abbrev main_v42 : Ref sig .tc := ⟨.hbm, 89, rfl⟩
abbrev main_c_7 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_8 : Ref sig .tc := ⟨.hbm, 98, rfl⟩
abbrev main_v50 : Ref sig .tc := ⟨.hbm, 99, rfl⟩
abbrev main_call3_v0 : Ref sig .tc := ⟨.hbm, 100, rfl⟩
abbrev main_call3_v1 : Ref sig .tc := ⟨.hbm, 101, rfl⟩
abbrev main_v51 : Ref sig .tc := ⟨.hbm, 102, rfl⟩
abbrev main_call4_v0 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_9 : Ref sig .tc := ⟨.hbm, 108, rfl⟩
abbrev main_v56 : Ref sig .tc := ⟨.hbm, 109, rfl⟩
abbrev main_cst_10 : Ref sig .tc := ⟨.hbm, 110, rfl⟩
abbrev main_v57 : Ref sig .tc := ⟨.hbm, 111, rfl⟩
abbrev main_cst_11 : Ref sig .tc := ⟨.hbm, 112, rfl⟩
abbrev main_v58 : Ref sig .tc := ⟨.hbm, 113, rfl⟩
abbrev main_v59 : Ref sig .tc := ⟨.hbm, 114, rfl⟩

abbrev nD : Nat := 1
abbrev τ : Topo := Topo.v7x

variable {F : FTy → Type} [FloatOps F]
-- ==== Proof.TileIdeal.lean ====
/-
  One vector subcore's task of the SparseCore kernel, run once at a symbolic pair of SparseCore and subcore, with the
  values it computes: each of the four chunks copied in is the 128 rows the printed offsets name, the accumulator after
  every trip of the three nested loops is a fold of the printed payloads, and what the task leaves in its row of the
  parts array is that fold over the arrays it reads.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

set_option maxRecDepth 16384

noncomputable section

namespace Cert.KernelIdeal.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

/-- The labels under the SparseCore wrapper: the kernels' own, behind the one pipelined region's. -/
abbrev ΛP : Labels := Pipeline.Sig Λ₀ (Fin 1) fun p => (pcfgs (F := F) p).Adm
/-- The SparseCore launch configuration. -/
abbrev K : SparseCore.Cfg τ sig (ΛP (F := F)) 1 := sc (F := F)
/-- The one call runs on sixteen vector subcores. -/
theorem nSub_zero : (K (F := F)).nSub 0 = 16 := rfl
/-- The functions under the wrapper: the pipelines over the kernels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and of their kinds. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipeline's rounds, and the transfers' counters. -/
abbrev UH : Type := URounds (GSem nD τ sig) ℕ
abbrev UP : Type := URounds (GSem nD τ sig) Unit
abbrev UU : Type := (UH × UP) × Counters

local notation "𝕄" => MT nD τ sig (HIx 1) (Elt F) ℕ UU ℕ

variable [FloatOps F]

/-! ## The arrays and scratch buffers -/

local notation "aV" => (Memref.whole Cert.KernelIdeal.main_v0_0_scv : Memref sig Kind.scVector Space.hbm S16384x300 EltTy.f32)
local notation "bV" => (Memref.whole Cert.KernelIdeal.main_v0_1_scv : Memref sig Kind.scVector Space.hbm S16384x300 EltTy.f32)
local notation "sV" => (Memref.whole Cert.KernelIdeal.main_v1_scv : Memref sig Kind.scVector Space.hbm S16384 EltTy.i32)
local notation "oV" => (Memref.whole Cert.KernelIdeal.main_v2_scv : Memref sig Kind.scVector Space.hbm S32x16 EltTy.f32)
local notation "xA" => (Memref.whole Cert.KernelIdeal.cc1_scratch0 : Memref sig Kind.scVector Space.vmem S128x300 EltTy.f32)
local notation "xB" => (Memref.whole Cert.KernelIdeal.cc1_scratch1 : Memref sig Kind.scVector Space.vmem S128x300 EltTy.f32)
local notation "xS" => (Memref.whole Cert.KernelIdeal.cc1_scratch2 : Memref sig Kind.scVector Space.vmem S128 EltTy.i32)
local notation "xO" => (Memref.whole Cert.KernelIdeal.cc1_scratch3 : Memref sig Kind.scVector Space.vmem S16 EltTy.f32)

/-- The log-probabilities, the probabilities, the shifts, the parts: as locations of device `d`. -/
abbrev aLoc (d : Dev nD) : Loc nD τ sig := (SparseCore.T d).loc main_v0_0
abbrev bLoc (d : Dev nD) : Loc nD τ sig := (SparseCore.T d).loc main_v0_1
abbrev sLoc (d : Dev nD) : Loc nD τ sig := (SparseCore.T d).loc main_v1
abbrev oLoc (d : Dev nD) : Loc nD τ sig := (SparseCore.T d).loc main_v2

/-! ## A fold by trip number -/

/-- `f` applied for the first `n` trips (those there are), from `a`. -/
def upTo {N : ℕ} {α : Type} (f : Fin N → α → α) (a : α) : ℕ → α
  | 0 => a
  | n + 1 => if h : n < N then f ⟨n, h⟩ (upTo f a n) else upTo f a n

/-- One more trip is one more application. -/
theorem upTo_succ {N : ℕ} {α : Type} (f : Fin N → α → α) (a : α) (k : Fin N) : upTo f a (k.val + 1) = f k (upTo f a k.val) := by
  rw [upTo, dif_pos k.isLt]

/-! ## The checks hold of every word -/

/-- The row a lane reads is below 128: sixteen lanes of one of eight groups. -/
theorem row_lt (t2 : Fin k1_t2_loop.trips) (x : S16.Idx) : (k1_pay2 t2 x).toNat < 128 := by
  revert x; revert t2; decide +kernel

/-- A word clamped between 0 and 299 is below 300. -/
theorem clamp_lt (w : BitVec 32) : (IntOp.minsi (IntOp.maxsi w 0#32) 299#32).toNat < 300 := by
  unfold IntOp.minsi IntOp.maxsi
  have h0 : ∀ v : BitVec 32, v.toInt < 299 → 0 ≤ v.toInt → v.toNat < 300 := fun v h1 h2 => by
    have := v.isLt
    rw [BitVec.toInt_eq_toNat_cond] at h1 h2; split at h1 <;> split at h2 <;> omega
  generalize hv : (if (0#32).slt w = true then w else 0#32) = v
  have hv0 : 0 ≤ v.toInt := by
    subst hv; split
    · rename_i h; simp [BitVec.slt] at h; omega
    · simp
  split
  · rename_i h; exact h0 v (by simpa [BitVec.slt] using h) hv0
  · decide

/-- The column a lane reads of the log-probabilities is below 300. -/
theorem col_lt (v17 : Vec F S16 .i32) (t3 : Fin k1_t3_loop.trips) (x : S16.Idx) : (k1_pay5 (F := F) v17 t3 x).toNat < 300 :=
  clamp_lt _

/-- The gather of the log-probabilities is inside the chunk. -/
theorem chk1_ok (t2 : Fin k1_t2_loop.trips) (v17 : Vec F S16 .i32) (t3 : Fin k1_t3_loop.trips) :
    k1_chk1 (k1_pay2 t2) (k1_pay5 (F := F) v17 t3) := by
  intro a x
  match a with
  | 0 => exact row_lt t2 x
  | 1 => exact col_lt v17 t3 x

/-- The gather of the probabilities is inside the chunk. -/
theorem chk2_ok (t2 : Fin k1_t2_loop.trips) (t3 : Fin k1_t3_loop.trips) :
    k1_chk2 (k1_pay2 t2) (broadcast S16 (Scf.iv 0#32 1#32 t3.val)) := by
  intro a x
  match a with
  | 0 => exact row_lt t2 x
  | 1 => exact (show ∀ t : Fin k1_t3_loop.trips, (Scf.iv 0#32 1#32 t.val).toNat < 300 by decide +kernel) t3

/-! ## The values -/

/-- The 128 rows of an array the offsets of trip `t1` name. -/
def chunk (f : S16384x300.Idx → F .f32) (L : grid1.Coords) (t1 : Fin k1_t1_loop.trips) : Vec F S128x300 .f32 :=
  fun x => f ((Rect.unit (s := S16384x300) (k1_off1 L t1) S128x300.size (k1_off1_inb L t1)).emb x)
/-- The 128 shifts the offsets of trip `t1` name. -/
def chunkS (f : S16384.Idx → BitVec 32) (L : grid1.Coords) (t1 : Fin k1_t1_loop.trips) : Vec F S128 .i32 :=
  fun x => f ((Rect.unit (s := S16384) (k1_off2 L t1) S128.size (k1_off2_inb L t1)).emb x)
/-- The sixteen shifts of a group. -/
def lanes (s : Vec F S128 .i32) (t2 : Fin k1_t2_loop.trips) : Vec F S16 .i32 :=
  fun x => s ((Rect.unit (s := S128) (k1_off3 t2) S16.size (k1_off3_inb t2)).emb x)

/-- One class: the accumulator with the gathered product of each lane's row added. -/
def step3 (A B : Vec F S128x300 .f32) (t2 : Fin k1_t2_loop.trips) (v17 : Vec F S16 .i32) (t3 : Fin k1_t3_loop.trips)
    (acc : FVec F S16 .f32) : FVec F S16 .f32 :=
  k1_pay6 v17 t3 acc (loadIdx A ![k1_pay2 t2, k1_pay5 (F := F) v17 t3] (k1_idx1_inb _ _ (chk1_ok t2 v17 t3)))
    (loadIdx B ![k1_pay2 t2, broadcast S16 (Scf.iv 0#32 1#32 t3.val)] (k1_idx2_inb _ _ (chk2_ok t2 t3)))
/-- One group of sixteen rows: its sum over the classes added. -/
def step2 (A B : Vec F S128x300 .f32) (s : Vec F S128 .i32) (t2 : Fin k1_t2_loop.trips) (acc : FVec F S16 .f32) : FVec F S16 .f32 :=
  k1_pay7 acc (upTo (step3 A B t2 (lanes s t2)) k1_pay3 k1_t3_loop.trips)
/-- One chunk of 128 rows: its eight groups. -/
def step1 (lp p : S16384x300.Idx → F .f32) (s : S16384.Idx → BitVec 32) (L : grid1.Coords) (t1 : Fin k1_t1_loop.trips)
    (acc : FVec F S16 .f32) : FVec F S16 .f32 :=
  upTo (step2 (chunk lp L t1) (chunk p L t1) (chunkS s L t1)) acc k1_t2_loop.trips
/-- What one task writes: its four chunks. -/
def part (lp p : S16384x300.Idx → F .f32) (s : S16384.Idx → BitVec 32) (L : grid1.Coords) : FVec F S16 .f32 :=
  upTo (step1 lp p s L) k1_pay1 k1_t1_loop.trips

/-! ## The task -/

section Tile

variable (d : Dev nD) (L : grid1.Coords)

/-- The SparseCore and the subcore at coordinates `L`. -/
abbrev cV (L : grid1.Coords) : Fin τ.nSC := (L 0).castLE hcore1
abbrev jV (L : grid1.Coords) : Fin τ.nSub := (L 1).castLE hsub1

/-- A tile's scratch buffers held whole: the log-probabilities' chunk, the probabilities', the shifts', the part. -/
abbrev ptsA (A : Vec F S128x300 .f32) : sProp 𝕄 := (V d (cV L) (jV L)).loc cc1_scratch0 ↦{fullShare} A
abbrev ptsB (B : Vec F S128x300 .f32) : sProp 𝕄 := (V d (cV L) (jV L)).loc cc1_scratch1 ↦{fullShare} B
abbrev ptsS (s : Vec F S128 .i32) : sProp 𝕄 := (V d (cV L) (jV L)).loc cc1_scratch2 ↦{fullShare} s
abbrev ptsO (o : Vec F S16 .f32) : sProp 𝕄 := (V d (cV L) (jV L)).loc cc1_scratch3 ↦{fullShare} o

/-- A scratch chunk read through its whole view is its contents. -/
theorem read_xA (A : Vec F S128x300 .f32) : View.read (Elt F) ((xA).access (.whole S128x300)) A = A :=
  Memref.read_access_whole (Elt F) cc1_scratch0 A
theorem read_xB (B : Vec F S128x300 .f32) : View.read (Elt F) ((xB).access (.whole S128x300)) B = B :=
  Memref.read_access_whole (Elt F) cc1_scratch1 B

/-- One class's region: the two gathers, the accumulator one step on. -/
theorem t3_step (A B : Vec F S128x300 .f32) (v17 : Vec F S16 .i32) (t2 : Fin k1_t2_loop.trips) (k : Fin k1_t3_loop.trips) (acc : FVec F S16 .f32) :
    iprop(ptsA d L A ∗ ptsB d L B)
      ⊢ wp (M := 𝕄) frame (wpE (defs₀ (F := F)) 𝒱₀ (V d (cV L) (jV L)) none) Set.univ
        (k1_t3_body L aV (Memref.isWhole_whole _) bV (Memref.isWhole_whole _) sV (Memref.isWhole_whole _) oV (Memref.isWhole_whole _)
          xA (Memref.isWhole_whole _) xB (Memref.isWhole_whole _) xS (Memref.isWhole_whole _) xO (Memref.isWhole_whole _)
          cc1_scoped0 cc1_scoped1 cc1_scoped2 cc1_scoped3 (k1_pay2 t2) v17 k acc)
        fun r => iprop(⌜r = step3 A B t2 v17 k acc⌝ ∗ ptsA d L A ∗ ptsB d L B) := by
  unfold k1_t3_body
  iintro ⟨HA, HB⟩
  have h1 := chk1_ok (F := F) t2 v17 k
  have h2 := chk2_ok t2 k
  sl_exec
  iapply (SparseCore.wp_vectorLoadIdx 𝒱₀ (V d (cV L) (jV L)) none Set.univ (base := xA) (S := Finset.univ) (q := fullShare) (Finset.subset_univ _)) $$ HA
  iintro HA
  sl_exec
  iapply (SparseCore.wp_vectorLoadIdx 𝒱₀ (V d (cV L) (jV L)) none Set.univ (base := xB) (S := Finset.univ) (q := fullShare) (Finset.subset_univ _)) $$ HB
  iintro HB
  sl_step
  isplitr
  · ipureintro
    show k1_pay6 v17 k acc (loadIdx (View.read (Elt F) ((xA).access (.whole S128x300)) A) _ _)
      (loadIdx (View.read (Elt F) ((xB).access (.whole S128x300)) B) _ _) = _
    simp only [read_xA, read_xB]
    rfl
  isplitl [HA]; · iexact HA
  iexact HB

/-- One group's region: the sixteen shifts read, the classes summed, the accumulator one step on. -/
theorem t2_step (A B : Vec F S128x300 .f32) (s : Vec F S128 .i32) (k : Fin k1_t2_loop.trips) (acc : FVec F S16 .f32) :
    iprop(ptsA d L A ∗ ptsB d L B ∗ ptsS d L s)
      ⊢ wp (M := 𝕄) frame (wpE (defs₀ (F := F)) 𝒱₀ (V d (cV L) (jV L)) none) Set.univ
        (k1_t2_body L aV (Memref.isWhole_whole _) bV (Memref.isWhole_whole _) sV (Memref.isWhole_whole _) oV (Memref.isWhole_whole _)
          xA (Memref.isWhole_whole _) xB (Memref.isWhole_whole _) xS (Memref.isWhole_whole _) xO (Memref.isWhole_whole _)
          cc1_scoped0 cc1_scoped1 cc1_scoped2 cc1_scoped3 k acc)
        fun r => iprop(⌜r = step2 A B s k acc⌝ ∗ ptsA d L A ∗ ptsB d L B ∗ ptsS d L s) := by
  unfold k1_t2_body
  iintro ⟨HA, HB, HS⟩
  ihave HS' := (show ptsS d L s ⊢ iprop((xS).view.loc (V d (cV L) (jV L)) ↦{fullShare} s) from .rfl) $$ HS
  sl_exec
  sl_for (fun n a => iprop(⌜a = upTo (step3 A B k (lanes s k)) k1_pay3 n⌝ ∗ ptsA d L A ∗ ptsB d L B)) $$ [HA HB]
  case region =>
    intro t3 a
    iintro ⟨%e, HA, HB⟩
    iapply ((t3_step d L A B (lanes s k) k t3 a).trans (wp_mono frame _ _ fun r => by
      iintro ⟨%e', HA, HB⟩
      isplitr
      · ipureintro; rw [e', e]; exact (upTo_succ _ _ t3).symm
      isplitl [HA]; · iexact HA
      iexact HB))
    isplitl [HA]; · iexact HA
    iexact HB
  · isplitr
    · ipureintro; rfl
    isplitl [HA]; · iexact HA
    iexact HB
  iintro %r HI
  icases HI with ⟨%e, HA, HB⟩
  sl_exec
  sl_step
  isplitr
  · ipureintro; rw [e]; rfl
  isplitl [HA]; · iexact HA
  isplitl [HB]; · iexact HB
  iexact HS'

/-! ### The chunk loop -/

abbrev cell0 : GSem nD τ sig := (V d (cV L) (jV L), .dma cc1_scoped0.sem)
abbrev cell1 : GSem nD τ sig := (V d (cV L) (jV L), .dma cc1_scoped1.sem)
abbrev cell2 : GSem nD τ sig := (V d (cV L) (jV L), .dma cc1_scoped2.sem)
abbrev cell3 : GSem nD τ sig := (V d (cV L) (jV L), .dma cc1_scoped3.sem)

/-- Before chunk `n`: the accumulator is the fold of the chunks before it; the arrays read are held at a share, the
    scratch buffers at some contents, the three semaphores at zero. -/
def inv1 (qs : PosShare TreeShare) (lp p : S16384x300.Idx → F .f32) (s : S16384.Idx → BitVec 32)
    (O : CellTallies nD τ sig (HIx 1)) (W : Waits sig (HIx 1)) (n : ℕ) (acc : FVec F S16 .f32) : sProp 𝕄 :=
  iprop(⌜acc = upTo (step1 lp p s L) k1_pay1 n⌝ ∗ Transfers.MayWaits (V d (cV L) (jV L)) (default : HIx 1) O
    ∗ ((aV).view.loc (V d (cV L) (jV L)) ↦{qs} lp) ∗ ((bV).view.loc (V d (cV L) (jV L)) ↦{qs} p) ∗ ((sV).view.loc (V d (cV L) (jV L)) ↦{qs} s)
    ∗ (∃ f, (xA).view.loc (V d (cV L) (jV L)) ↦{fullShare} f) ∗ (∃ f, (xB).view.loc (V d (cV L) (jV L)) ↦{fullShare} f)
    ∗ (∃ f, (xS).view.loc (V d (cV L) (jV L)) ↦{fullShare} f)
    ∗ semVal (cell0 d L) 0 ∗ semVal (cell1 d L) 0 ∗ semVal (cell2 d L) 0
    ∗ ∃ W', ⌜∀ p ∈ W', p ∈ W ∨ p.2 = none⌝ ∗ owes (V d (cV L) (jV L)) O W')

set_option maxHeartbeats 4000000 in
/-- One chunk's region: three copies in, each waited for, and the groups' loop. -/
theorem t1_step (qs : PosShare TreeShare) (lp p : S16384x300.Idx → F .f32) (s : S16384.Idx → BitVec 32)
    (O : CellTallies nD τ sig (HIx 1)) (W : Waits sig (HIx 1)) (k : Fin k1_t1_loop.trips) (acc : FVec F S16 .f32) :
    inv1 d L qs lp p s O W k.val acc
      ⊢ wp (M := 𝕄) frame (wpE (defs₀ (F := F)) 𝒱₀ (V d (cV L) (jV L)) none) Set.univ
        (k1_t1_body L aV (Memref.isWhole_whole _) bV (Memref.isWhole_whole _) sV (Memref.isWhole_whole _) oV (Memref.isWhole_whole _)
          xA (Memref.isWhole_whole _) xB (Memref.isWhole_whole _) xS (Memref.isWhole_whole _) xO (Memref.isWhole_whole _)
          cc1_scoped0 cc1_scoped1 cc1_scoped2 cc1_scoped3 k acc)
        (inv1 d L qs lp p s O W (k.val + 1)) := by
  unfold k1_t1_body inv1
  iintro ⟨%e, Hmw, Ha, Hb, Hs, ⟨%fa, HA⟩, ⟨%fb, HB⟩, ⟨%fs, HS⟩, H0, H1, H2, %W', %hW', HO⟩
  sl_exec (disch := first | exact View.amount_pos _ _ (show 0 < S128x300.numel by decide) | exact View.amount_pos _ _ (show 0 < S128.numel by decide))
  have eA : View.write (Elt F) (xA).view fa (t1_step.sl.dma0 L lp k) Finset.univ = chunk lp L k :=
    (View.write_whole_univ cc1_scratch0 fa _).trans (funext fun x =>
      (show t1_step.sl.dma0 L lp k x = View.read (Elt F) ((aV).slice (Rect.unit (s := S16384x300) (k1_off1 L k) S128x300.size (k1_off1_inb L k)) (fun _ => rfl)).view lp x from rfl).trans
        ((View.read_apply _ _).trans (cast_eq _ _)))
  have eB : View.write (Elt F) (xB).view fb (t1_step.sl.dma0_1 L p k) Finset.univ = chunk p L k :=
    (View.write_whole_univ cc1_scratch1 fb _).trans (funext fun x =>
      (show t1_step.sl.dma0_1 L p k x = View.read (Elt F) ((bV).slice (Rect.unit (s := S16384x300) (k1_off1 L k) S128x300.size (k1_off1_inb L k)) (fun _ => rfl)).view p x from rfl).trans
        ((View.read_apply _ _).trans (cast_eq _ _)))
  have eS : View.write (Elt F) (xS).view fs (t1_step.sl.dma0_2 L s k) Finset.univ = chunkS s L k :=
    (View.write_whole_univ cc1_scratch2 fs _).trans (funext fun x =>
      (show t1_step.sl.dma0_2 L s k x = View.read (Elt F) ((sV).slice (Rect.unit (s := S16384) (k1_off2 L k) S128.size (k1_off2_inb L k)) (fun _ => rfl)).view s x from rfl).trans
        ((View.read_apply _ _).trans (cast_eq _ _)))
  ihave HA' := (Entails.of_eq (show _ = ptsA d L (chunk lp L k) by rw [eA])) $$ HA
  ihave HB' := (Entails.of_eq (show _ = ptsB d L (chunk p L k) by rw [eB])) $$ HB
  ihave HS' := (Entails.of_eq (show _ = ptsS d L (chunkS s L k) by rw [eS])) $$ HS
  sl_for (fun n a => iprop(⌜a = upTo (step2 (chunk lp L k) (chunk p L k) (chunkS s L k)) acc n⌝
    ∗ ptsA d L (chunk lp L k) ∗ ptsB d L (chunk p L k) ∗ ptsS d L (chunkS s L k))) $$ [HA' HB' HS']
  case region =>
    intro t2 a
    iintro ⟨%e1, HA, HB, HS⟩
    iapply ((t2_step d L (chunk lp L k) (chunk p L k) (chunkS s L k) t2 a).trans (wp_mono frame _ _ fun r => by
      iintro ⟨%e', HA, HB, HS⟩
      isplitr
      · ipureintro; rw [e', e1]; exact (upTo_succ _ _ t2).symm
      isplitl [HA]; · iexact HA
      isplitl [HB]; · iexact HB
      iexact HS))
    isplitl [HA]; · iexact HA
    isplitl [HB]; · iexact HB
    iexact HS
  · isplitr
    · ipureintro; rfl
    isplitl [HA']; · iexact HA'
    isplitl [HB']; · iexact HB'
    iexact HS'
  iintro %r HI
  icases HI with ⟨%e1, HA, HB, HS⟩
  sl_exec
  sl_step
  isplitr
  · ipureintro; rw [e1, e]; exact (upTo_succ (step1 lp p s L) k1_pay1 k).symm
  isplitl [Hmw]; · iexact Hmw
  isplitl [Ha]; · iexact Ha
  isplitl [Hb]; · iexact Hb
  isplitl [Hs]; · iexact Hs
  isplitl [HA]; · iexists _; iexact HA
  isplitl [HB]; · iexists _; iexact HB
  isplitl [HS]; · iexists _; iexact HS
  isplitl [H0]; · iexact H0
  isplitl [H1]; · iexact H1
  isplitl [H2]; · iexact H2
  iexists _; isplitr
  swap; · iexact HO
  ipureintro; intro q hq
  rcases Finset.mem_insert.mp hq with hq | hq; · exact .inr (hq ▸ rfl)
  rcases Finset.mem_insert.mp hq with hq | hq; · exact .inr (hq ▸ rfl)
  rcases Finset.mem_insert.mp hq with hq | hq; · exact .inr (hq ▸ rfl)
  exact hW' q hq

/-! ### The whole task -/

/-- The rectangle of the parts array a task writes: its row. -/
abbrev rowK : Rect S32x16 := Rect.unit (s := S32x16) (k1_off4 L) S1x16.size (k1_off4_inb L)
/-- The row as the kernel slices it: a vector of sixteen. -/
abbrev oRowK : Memref sig .scVector .hbm S16 .f32 := ((oV).slice (rowK L) (fun _ => rfl)).squeeze S16 squeezes_S1x16_S16
/-- Its elements. -/
abbrev rowSet : Finset S32x16.Idx := (oRowK L).view.set

/-- A subcore's four semaphores are among its own: they are them, at zero, and the rest. -/
theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L)) fun g => semVal g 0) := by
  have ne : ∀ {a b : DmaSem sig}, a ≠ b → ((V d (cV L) (jV L), SemLoc.dma a) : GSem nD τ sig) ≠ (V d (cV L) (jV L), SemLoc.dma b) :=
    fun h e => h (by simpa using e)
  have mem : ∀ s : DmaSem sig, (SemLoc.dma s : SemLoc sig).isScoped .scVector = true → (V d (cV L) (jV L), SemLoc.dma s) ∈ ownCells (V d (cV L) (jV L)) :=
    fun s h => mem_ownCells.mpr ⟨rfl, h⟩
  unfold SparseCore.Cfg.ownSems0
  rw [SparseCore.bigSep_erase' (mem cc1_scoped0.sem (by decide)),
    SparseCore.bigSep_erase' (Finset.mem_erase.mpr ⟨ne (show cc1_scoped1.sem ≠ cc1_scoped0.sem by decide), mem cc1_scoped1.sem (by decide)⟩),
    SparseCore.bigSep_erase' (Finset.mem_erase.mpr ⟨ne (show cc1_scoped2.sem ≠ cc1_scoped1.sem by decide), Finset.mem_erase.mpr
      ⟨ne (show cc1_scoped2.sem ≠ cc1_scoped0.sem by decide), mem cc1_scoped2.sem (by decide)⟩⟩),
    SparseCore.bigSep_erase' (Finset.mem_erase.mpr ⟨ne (show cc1_scoped3.sem ≠ cc1_scoped2.sem by decide), Finset.mem_erase.mpr
      ⟨ne (show cc1_scoped3.sem ≠ cc1_scoped1.sem by decide), Finset.mem_erase.mpr
      ⟨ne (show cc1_scoped3.sem ≠ cc1_scoped0.sem by decide), mem cc1_scoped3.sem (by decide)⟩⟩⟩)]

/-- A subcore's four scratch buffers are among its own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨ne (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨ne (show (cc1_scratch2 : Ref sig .scVector) ≠ cc1_scratch1 by decide), Finset.mem_erase.mpr
      ⟨ne (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨ne (show (cc1_scratch3 : Ref sig .scVector) ≠ cc1_scratch2 by decide), Finset.mem_erase.mpr
      ⟨ne (show (cc1_scratch3 : Ref sig .scVector) ≠ cc1_scratch1 by decide), Finset.mem_erase.mpr
      ⟨ne (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩)]

set_option maxHeartbeats 8000000 in
/-- The task at coordinates `L`: from a share of the three arrays and its row of the parts, the four chunks, the sum
    stored and copied out; the row is left holding `part`. -/
theorem tile_body (hF : (K (F := F)).Facts) (qs : PosShare TreeShare) (lp p : S16384x300.Idx → F .f32) (s : S16384.Idx → BitVec 32)
    (o : S32x16.Idx → F .f32) (O : CellTallies nD τ sig (HIx 1)) (W : Waits sig (HIx 1)) (hO : ∀ g, O g none = 0) :
    iprop(levAts (K (F := F)).L (K (F := F)).lev ∗ emp
        ∗ ((aLoc d ↦{qs} lp) ∗ (bLoc d ↦{qs} p) ∗ (sLoc d ↦{qs} s) ∗ (oLoc d ↦[rowSet L]{fullShare} o))
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
        (cc1__sc_body L aV (Memref.isWhole_whole _) bV (Memref.isWhole_whole _) sV (Memref.isWhole_whole _) oV (Memref.isWhole_whole _)
          xA (Memref.isWhole_whole _) xB (Memref.isWhole_whole _) xS (Memref.isWhole_whole _) xO (Memref.isWhole_whole _)
          cc1_scoped0 cc1_scoped1 cc1_scoped2 cc1_scoped3)
        fun _ => iprop(((aLoc d ↦{qs} lp) ∗ (bLoc d ↦{qs} p) ∗ (sLoc d ↦{qs} s)
            ∗ (oLoc d ↦[rowSet L]{fullShare} (oRowK L).view.write (Elt F) o (part lp p s L) Finset.univ))
          ∗ scopedBufs (V d (cV L) (jV L)) ∗ scopedSems0 (V d (cV L) (jV L))
          ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Ha, Hb, Hs, Ho⟩, ⟨HA, HB, HS, ⟨%fo, HX⟩, Hbufs⟩, ⟨H0, H1, H2, H3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv1 d L qs lp p s O W) $$ [Hmw Ha Hb Hs HA HB HS H0 H1 H2 HO]
  case region =>
    intro k acc
    exact t1_step d L qs lp p s O W k acc
  · unfold inv1
    isplitr
    · ipureintro; rfl
    isplitl [Hmw]; · iexact Hmw
    isplitl [Ha]; · iexact Ha
    isplitl [Hb]; · iexact Hb
    isplitl [Hs]; · iexact Hs
    isplitl [HA]; · iexact HA
    isplitl [HB]; · iexact HB
    isplitl [HS]; · iexact HS
    isplitl [H0]; · iexact H0
    isplitl [H1]; · iexact H1
    isplitl [H2]; · iexact H2
    iexists W; isplitr
    · ipureintro; exact fun _ hq => .inl hq
    iexact HO
  iintro %r HI
  unfold inv1
  icases HI with ⟨%e, Hmw, Ha, Hb, Hs, HA, HB, HS, H0, H1, H2, %W', %hW', HO⟩
  ihave Ho' := (show iprop(oLoc d ↦[rowSet L]{fullShare} o) ⊢ ((oRowK L).view.loc (V d (cV L) (jV L)) ↦[(oRowK L).view.set]{fullShare} o : sProp 𝕄) from .rfl) $$ Ho
  ihave HX' := (show ptsO d L fo ⊢ iprop((xO).view.loc (V d (cV L) (jV L)) ↦{fullShare} fo) from .rfl) $$ HX
  sl_exec
  have eP : tile_body.sl.dma2 d L fo r = part lp p s L := by
    have e1 : View.writes (xO).view (Elt F) fo (tile_body.sl.HX'_1 r) = r :=
      Memref.write_access_unit_zero_univ (Elt F) cc1_scratch3 (off := ![0]) (by funext a; match a with | 0 => rfl) inb_S16_S16_0 fo r
    show View.read (Elt F) (xO).view (View.writes (xO).view (Elt F) fo (tile_body.sl.HX'_1 r)) = _
    rw [e1, e]
    rfl
  have eW : (oRowK L).view.writes (Elt F) o [⟨Rect.whole S16, tile_body.sl.dma2 d L fo r⟩]
      = (oRowK L).view.write (Elt F) o (part lp p s L) Finset.univ := by
    rw [eP]; exact (View.write_univ_eq_writes_whole (Val := Elt F) (oRowK L).view o [] (part lp p s L)).symm
  ihave Ho := (Entails.of_eq (show _ = (oLoc d ↦[rowSet L]{fullShare} (oRowK L).view.write (Elt F) o (part lp p s L) Finset.univ : sProp 𝕄) by rw [eW])) $$ Ho'
  sl_step
  isplitl [Ha Hb Hs Ho]
  · isplitl [Ha]; · iexact Ha
    isplitl [Hb]; · iexact Hb
    isplitl [Hs]; · iexact Hs
    iexact Ho
  isplitl [HA HB HS HX' Hbufs]
  · isplitl [HA]; · iexact HA
    isplitl [HB]; · iexact HB
    isplitl [HS]; · iexact HS
    isplitl [HX']; · iexists _; iexact HX'
    iexact Hbufs
  isplitl [H0 H1 H2 H3 Hsems]
  · isplitl [H0]; · iexact H0
    isplitl [H1]; · iexact H1
    isplitl [H2]; · iexact H2
    isplitl [H3]; · iexact H3
    iexact Hsems
  iexists _; isplitr
  swap; · iexact HO
  ipureintro; intro q hq
  rcases Finset.mem_insert.mp hq with hq | hq; · exact .inr (hq ▸ rfl)
  exact hW' q hq

end Tile

end Cert.KernelIdeal.Run
-- ==== Proof.RegionIdeal.lean ====
/-
  The TensorCore region of the kernel: its body at one block of 256 rows with the values it stores, the region's data,
  and the three arrays it leaves as functions of the four arguments.
-/
module

public import proofs.«01_k».proof.Proof.TileIdeal
public import proofs.«01_k».proof.Proof.Gen.KernelIdeal.Points
public import Idealize.ShloMosaic.Lib.Pipeline.ValueKit

@[expose] public section

set_option maxRecDepth 16384

noncomputable section

namespace Cert.KernelIdeal.Run

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The arrays the region leaves -/

/-- Row `r` of block `n` is a row of the array. -/
theorem block_row_lt {n : ℕ} (hn : n < 64) (y : Fin 256) : n * 256 + y.val < 16384 := by omega

/-- Block `n` of a 16384×300 array: its rows 256 n to 256 n + 255. -/
def rows300 (A : Vec F S16384x300 .f32) (n : ℕ) (hn : n < 64) : Vec F S256x300 .f32 := fun y =>
  A (fun a => match a with
    | 0 => ⟨n * 256 + (y 0).val, block_row_lt hn (y 0)⟩
    | 1 => ⟨(y 1).val, (y 1).isLt⟩)

/-- Block `n` of a 16384×1 array. -/
def rows1 {e : EltTy} (A : Vec F S16384x1 e) (n : ℕ) (hn : n < 64) : Vec F S256x1 e := fun y =>
  A (fun a => match a with
    | 0 => ⟨n * 256 + (y 0).val, block_row_lt hn (y 0)⟩
    | 1 => ⟨(y 1).val, (y 1).isLt⟩)

/-- The block an index of a 16384×300 array lies in. -/
theorem blk300_lt (i : S16384x300.Idx) : (i 0).val / 256 < 64 := by
  have : (i 0).val < 16384 := (i 0).isLt
  omega
/-- The block an index of a 16384×1 array lies in. -/
theorem blk1_lt (i : S16384x1.Idx) : (i 0).val / 256 < 64 := by
  have : (i 0).val < 16384 := (i 0).isLt
  omega

/-- Where in its block an index lies. -/
def in300 (i : S16384x300.Idx) : S256x300.Idx := fun a => match a with
  | 0 => ⟨(i 0).val % 256, Nat.mod_lt _ (by decide)⟩
  | 1 => ⟨(i 1).val, (i 1).isLt⟩
/-- Where in its block an index lies. -/
def in1 (i : S16384x1.Idx) : S256x1.Idx := fun a => match a with
  | 0 => ⟨(i 0).val % 256, Nat.mod_lt _ (by decide)⟩
  | 1 => ⟨(i 1).val, (i 1).isLt⟩

/-- The log-probabilities the region leaves: block by block, the body's first payload. -/
def lpFn (A : Vec F S16384x300 .f32) : Vec F S16384x300 .f32 := fun i => k0_pay1 (rows300 A _ (blk300_lt i)) (in300 i)
/-- The probabilities the region leaves: block by block, the body's second payload. -/
def pFn (A : Vec F S16384x300 .f32) : Vec F S16384x300 .f32 := fun i => k0_pay2 (rows300 A _ (blk300_lt i)) (in300 i)
/-- The shifts the region leaves, of the two arrays of rates: block by block, the body's third payload. -/
def sFn (A B : Vec F S16384x1 .f32) : Vec F S16384x1 .i32 := fun i =>
  k0_pay3 (rows1 B _ (blk1_lt i)) (rows1 A _ (blk1_lt i)) (in1 i)

/-! ## The body at one block -/

/-- A memref's buffer on core `d`, and it held whole. -/
abbrev Bf (d : Dev nD) {sp : Space} {s : Shape} {e : EltTy} (M : Memref sig .tc sp s e) : Type := Buf (Elt F) (M.view.loc (d : Thread nD τ))
abbrev pt (d : Dev nD) {sp : Space} {s : Shape} {e : EltTy} (M : Memref sig .tc sp s e) (f : Bf (F := F) d M) : sProp 𝕄 :=
  M.view.loc (d : Thread nD τ) ↦{fullShare} f

/-- The two zero offsets, as a constant function. -/
theorem zero2 : (![0, 0] : Fin 2 → Nat) = fun _ => 0 := funext fun a => by fin_cases a <;> rfl

/-- What reading a buffer back after one store of the whole block gives: the store's payload. -/
theorem read_store {sp : Space} {s : Shape} {e : EltTy} (M : Memref sig .tc sp s e) {off : Fin s.rank → Nat} (h : off = fun _ => 0)
    (inb : ∀ a, off a + s.size a ≤ s.size a) (f : M.view.ty.Contents (Elt F)) (w : s.Idx → Elt F e) :
    M.view.read (Elt F) (M.view.writes (Elt F) f [⟨Rect.unit off s.size inb, w⟩]) = w := by
  subst h
  funext y
  have hy : (Rect.unit (fun _ => 0) s.size inb).emb y = y := by
    funext a; apply Fin.ext; rw [Rect.emb_apply]; show 0 + 1 * (y a).val = _; omega
  conv_lhs => rw [← hy]
  exact View.read_write_of_mem (v := M.view.slice (Rect.unit (fun _ => 0) s.size inb)) f w (Finset.mem_univ y)

/-- What a load of the whole block reads: the block. -/
theorem load_whole {sp : Space} {s : Shape} {e : EltTy} (M : Memref sig .tc sp s e) {off : Fin s.rank → Nat} (h : off = fun _ => 0)
    (inb : ∀ a, off a + s.size a ≤ s.size a) (f : M.view.ty.Contents (Elt F)) :
    M.view.readAt (Elt F) (Rect.unit off s.size inb).toLoadRect f = M.view.read (Elt F) f := by
  rw [View.readAt_eq_ld, View.ld_unit_zero h]

/-- The body at one block: from the seven staging buffers held whole it stores its three payloads of the four blocks it
    reads, leaving those as they were. -/
theorem prep_run (d : Dev nD) (i : grid0.Coords)
    (M0 : Memref sig .tc .vmem S256x300 .f32) (h0 : M0.IsWhole) (M1 : Memref sig .tc .vmem S256x300 .f32) (h1 : M1.IsWhole)
    (M2 : Memref sig .tc .vmem S256x1 .f32) (h2 : M2.IsWhole) (M3 : Memref sig .tc .vmem S256x1 .f32) (h3 : M3.IsWhole)
    (M4 : Memref sig .tc .vmem S256x300 .f32) (h4 : M4.IsWhole) (M5 : Memref sig .tc .vmem S256x300 .f32) (h5 : M5.IsWhole)
    (M6 : Memref sig .tc .vmem S256x1 .i32) (h6 : M6.IsWhole)
    (f0 : Bf (F := F) d M0) (f1 : Bf (F := F) d M1) (f2 : Bf (F := F) d M2) (f3 : Bf (F := F) d M3)
    (f4 : Bf (F := F) d M4) (f5 : Bf (F := F) d M5) (f6 : Bf (F := F) d M6) (Q : PUnit → sProp 𝕄) :
    iprop(pt d M0 f0 ∗ pt d M1 f1 ∗ pt d M2 f2 ∗ pt d M3 f3 ∗ pt d M4 f4 ∗ pt d M5 f5 ∗ pt d M6 f6
        ∗ (iprop(∃ (g4 : Bf (F := F) d M4) (g5 : Bf (F := F) d M5) (g6 : Bf (F := F) d M6),
            ⌜M4.view.read (Elt F) g4 = k0_pay1 (M0.view.read (Elt F) f0)⌝ ∗ ⌜M5.view.read (Elt F) g5 = k0_pay2 (M1.view.read (Elt F) f1)⌝
            ∗ ⌜M6.view.read (Elt F) g6 = k0_pay3 (M3.view.read (Elt F) f3) (M2.view.read (Elt F) f2)⌝
            ∗ pt d M0 f0 ∗ pt d M1 f1 ∗ pt d M2 f2 ∗ pt d M3 f3 ∗ pt d M4 g4 ∗ pt d M5 g5 ∗ pt d M6 g6) -∗ Q ⟨⟩))
      ⊢ wp frame (wpE (defs₀ (F := F)) 𝒱₀ d none) Set.univ (cc0__prep_body (F := F) i M0 h0 M1 h1 M2 h2 M3 h3 M4 h4 M5 h5 M6 h6) Q := by
  simp only [cc0__prep_body_eq_skeleton]
  unfold cc0__prep_body_skel
  iintro ⟨H0, H1, H2, H3, H4, H5, H6, Hk⟩
  sl_exec
  sl_step
  iapply Hk
  iexists _, _, _
  isplitr; swap
  isplitr; swap
  isplitr; swap
  isplitl [H0]; · iexact H0
  isplitl [H1]; · iexact H1
  isplitl [H2]; · iexact H2
  isplitl [H3]; · iexact H3
  isplitl [H4]; · iexact H4
  isplitl [H5]; · iexact H5
  iexact H6
  all_goals ipureintro
  · rw [read_store M6 zero2, load_whole M3 zero2, load_whole M2 zero2]
  · rw [read_store M5 zero2, load_whole M1 zero2]
  · rw [read_store M4 zero2, load_whole M0 zero2]

/-! ## The region's data -/

/-- The prefetched tables' contents: the kernel has none. -/
abbrev adm : (p : Fin 1) → (pcfgs (F := F) p).Adm := fun p => (cfgs p).toPCfg_adm

section Data

variable (A0 A1 : Vec F S16384x300 .f32) (A2 A3 : Vec F S16384x1 .f32) (B4 B5 : Vec F S16384x300 .f32) (B6 : Vec F S16384x1 .i32)

/-- A point of the grid is below 64. -/
theorem pt_lt (t : Fin cfg0.N) : t.val < 64 := Nat.lt_of_lt_of_eq t.isLt N_0

/-- What the waits recorded so far may be: cells at the level the region is entered at. -/
abbrev recd (d : Dev nD) : Set (SemLoc sig × HIx 1) := {p | (K (F := F)).lev (T d, p.1) p.2 ≤ 0}

/-- The region's data on device `d`: the seven arrays as the region finds them, what the body leaves in each staging
    buffer at each block, nothing carried from block to block, and what the TensorCore owes the SparseCores meanwhile. -/
def dat (d : Dev nD) : Dat τ (Elt F) (HIx 1) ℕ UU ℕ cfg0 d where
  A w := match w with
    | ⟨0, _⟩ => A0
    | ⟨1, _⟩ => A1
    | ⟨2, _⟩ => A2
    | ⟨3, _⟩ => A3
    | ⟨4, _⟩ => B4
    | ⟨5, _⟩ => B5
    | ⟨6, _⟩ => B6
  after w t := match w with
    | ⟨0, _⟩ => rows300 A0 t.val (pt_lt t)
    | ⟨1, _⟩ => rows300 A1 t.val (pt_lt t)
    | ⟨2, _⟩ => rows1 A2 t.val (pt_lt t)
    | ⟨3, _⟩ => rows1 A3 t.val (pt_lt t)
    | ⟨4, _⟩ => k0_pay1 (rows300 A0 t.val (pt_lt t))
    | ⟨5, _⟩ => k0_pay2 (rows300 A1 t.val (pt_lt t))
    | ⟨6, _⟩ => k0_pay3 (rows1 A3 t.val (pt_lt t)) (rows1 A2 t.val (pt_lt t))
  Φ _ := BI.emp
  q _ := fullShare
  owed _ := (K (F := F)).Otc d 0
  recorded _ := recd (F := F) d

/-- The block index at point `t` is `t` on the rows and 0 on the columns. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)

/-- A window's block at point `t`, read from an array, is the array's block `t`. -/
theorem read_blk0 (t : Fin cfg0.N) (A : Vec F S16384x300 .f32) : ((cfg0.win 0).blk t).view.read (Elt F) A = rows300 A t.val (pt_lt t) := by
  obtain ⟨e0, e1⟩ := index0 t
  funext j
  refine congrArg A (funext fun a => Fin.ext ?_)
  match a with
  | ⟨0, _⟩ => show win0_0.index t (0 : Fin 2) * 256 + 1 * (j 0).val = t.val * 256 + (j 0).val; rw [e0]; omega
  | ⟨1, _⟩ => show win0_0.index t (1 : Fin 2) * 300 + 1 * (j 1).val = (j 1).val; rw [e1]; omega
theorem read_blk1 (t : Fin cfg0.N) (A : Vec F S16384x300 .f32) : ((cfg0.win 1).blk t).view.read (Elt F) A = rows300 A t.val (pt_lt t) := by
  obtain ⟨e0, e1⟩ := index1 t
  funext j
  refine congrArg A (funext fun a => Fin.ext ?_)
  match a with
  | ⟨0, _⟩ => show win0_1.index t (0 : Fin 2) * 256 + 1 * (j 0).val = t.val * 256 + (j 0).val; rw [e0]; omega
  | ⟨1, _⟩ => show win0_1.index t (1 : Fin 2) * 300 + 1 * (j 1).val = (j 1).val; rw [e1]; omega
theorem read_blk2 (t : Fin cfg0.N) (A : Vec F S16384x1 .f32) : ((cfg0.win 2).blk t).view.read (Elt F) A = rows1 A t.val (pt_lt t) := by
  obtain ⟨e0, e1⟩ := index2 t
  funext j
  refine congrArg A (funext fun a => Fin.ext ?_)
  match a with
  | ⟨0, _⟩ => show win0_2.index t (0 : Fin 2) * 256 + 1 * (j 0).val = t.val * 256 + (j 0).val; rw [e0]; omega
  | ⟨1, _⟩ => show win0_2.index t (1 : Fin 2) * 1 + 1 * (j 1).val = (j 1).val; rw [e1]; omega
theorem read_blk3 (t : Fin cfg0.N) (A : Vec F S16384x1 .f32) : ((cfg0.win 3).blk t).view.read (Elt F) A = rows1 A t.val (pt_lt t) := by
  obtain ⟨e0, e1⟩ := index3 t
  funext j
  refine congrArg A (funext fun a => Fin.ext ?_)
  match a with
  | ⟨0, _⟩ => show win0_3.index t (0 : Fin 2) * 256 + 1 * (j 0).val = t.val * 256 + (j 0).val; rw [e0]; omega
  | ⟨1, _⟩ => show win0_3.index t (1 : Fin 2) * 1 + 1 * (j 1).val = (j 1).val; rw [e1]; omega

/-- An input window's staging buffer holds its block when the body runs. -/
theorem before0 (d : Dev nD) (t : Fin cfg0.N) (x) : (dat A0 A1 A2 A3 B4 B5 B6 d).before 0 t x = rows300 A0 t.val (pt_lt t) :=
  ((dat A0 A1 A2 A3 B4 B5 B6 d).before_fetched 0 t (fetch0_0 t) x).trans (read_blk0 t A0)
theorem before1 (d : Dev nD) (t : Fin cfg0.N) (x) : (dat A0 A1 A2 A3 B4 B5 B6 d).before 1 t x = rows300 A1 t.val (pt_lt t) :=
  ((dat A0 A1 A2 A3 B4 B5 B6 d).before_fetched 1 t (fetch0_1 t) x).trans (read_blk1 t A1)
theorem before2 (d : Dev nD) (t : Fin cfg0.N) (x) : (dat A0 A1 A2 A3 B4 B5 B6 d).before 2 t x = rows1 A2 t.val (pt_lt t) :=
  ((dat A0 A1 A2 A3 B4 B5 B6 d).before_fetched 2 t (fetch0_2 t) x).trans (read_blk2 t A2)
theorem before3 (d : Dev nD) (t : Fin cfg0.N) (x) : (dat A0 A1 A2 A3 B4 B5 B6 d).before 3 t x = rows1 A3 t.val (pt_lt t) :=
  ((dat A0 A1 A2 A3 B4 B5 B6 d).before_fetched 3 t (fetch0_3 t) x).trans (read_blk3 t A3)

/-- A whole memref owned at contents `X` is its buffer held whole at contents the memref reads `X` of. -/
theorem owns_isWhole (d : Dev nD) {sp : Space} {s : Shape} {e : EltTy} {M : Memref sig .tc sp s e} (h : M.IsWhole) (X : s.Idx → Elt F e) :
    (owns (d : Thread nD τ) M fullShare X : sProp 𝕄) = iprop(∃ f : Bf (F := F) d M, ⌜M.view.read (Elt F) f = X⌝ ∗ pt d M f) := by
  unfold owns
  rw [h.set_eq_univ]

theorem owns_open (d : Dev nD) {sp : Space} {s : Shape} {e : EltTy} {M : Memref sig .tc sp s e} (h : M.IsWhole) (X : s.Idx → Elt F e) :
    (owns (d : Thread nD τ) M fullShare X : sProp 𝕄) ⊢ iprop(∃ f : Bf (F := F) d M, ⌜M.view.read (Elt F) f = X⌝ ∗ pt d M f) := by
  rw [owns_isWhole d h]
theorem owns_close (d : Dev nD) {sp : Space} {s : Shape} {e : EltTy} {M : Memref sig .tc sp s e} (h : M.IsWhole) {X : s.Idx → Elt F e}
    (f : Bf (F := F) d M) (hf : M.view.read (Elt F) f = X) : (pt d M f : sProp 𝕄) ⊢ owns (d : Thread nD τ) M fullShare X := by
  rw [owns_isWhole d h]
  iintro H
  iexists f
  isplitr; · ipureintro; exact hf
  iexact H

/-- The body's obligation at every block. -/
theorem body_obligation (d : Dev nD) : BodyObligation (dat A0 A1 A2 A3 B4 B5 B6 d) (defs₀ (F := F)) 𝒱₀ none Set.univ := fun t => by
  rw [bigSep_W0, bigSep_W0]
  dsimp only
  rw [show (dat A0 A1 A2 A3 B4 B5 B6 d).Φ t.succ = (dat A0 A1 A2 A3 B4 B5 B6 d).Φ t.castSucc from rfl,
    show (dat A0 A1 A2 A3 B4 B5 B6 d).owesAt none t.succ = (dat A0 A1 A2 A3 B4 B5 B6 d).owesAt none t.castSucc from rfl]
  iintro ⟨HΦ, Howes, ⟨%x0, H0⟩, ⟨%x1, H1⟩, ⟨%x2, H2⟩, ⟨%x3, H3⟩, ⟨%x4, H4⟩, ⟨%x5, H5⟩, ⟨%x6, H6⟩⟩
  rw [before0, before1, before2, before3]
  ihave H0 := (owns_open d (M := win0_0.stage (cfg0.slots t 0)) (hstage0_0 ((cfg0.slots t 0).cast nbuf0_0)) _) $$ H0
  ihave H1 := (owns_open d (M := win0_1.stage (cfg0.slots t 1)) (hstage0_1 ((cfg0.slots t 1).cast nbuf0_1)) _) $$ H1
  ihave H2 := (owns_open d (M := win0_2.stage (cfg0.slots t 2)) (hstage0_2 ((cfg0.slots t 2).cast nbuf0_2)) _) $$ H2
  ihave H3 := (owns_open d (M := win0_3.stage (cfg0.slots t 3)) (hstage0_3 ((cfg0.slots t 3).cast nbuf0_3)) _) $$ H3
  ihave H4 := (owns_open d (M := win0_4.stage (cfg0.slots t 4)) (hstage0_4 ((cfg0.slots t 4).cast nbuf0_4)) _) $$ H4
  ihave H5 := (owns_open d (M := win0_5.stage (cfg0.slots t 5)) (hstage0_5 ((cfg0.slots t 5).cast nbuf0_5)) _) $$ H5
  ihave H6 := (owns_open d (M := win0_6.stage (cfg0.slots t 6)) (hstage0_6 ((cfg0.slots t 6).cast nbuf0_6)) _) $$ H6
  icases H0 with ⟨%f0, %e0, H0⟩
  icases H1 with ⟨%f1, %e1, H1⟩
  icases H2 with ⟨%f2, %e2, H2⟩
  icases H3 with ⟨%f3, %e3, H3⟩
  icases H4 with ⟨%f4, -, H4⟩
  icases H5 with ⟨%f5, -, H5⟩
  icases H6 with ⟨%f6, -, H6⟩
  iapply (prep_run d (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    f0 f1 f2 f3 f4 f5 f6 _) $$ [H0 H1 H2 H3 H4 H5 H6 HΦ Howes]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨%g4, %g5, %g6, %e4, %e5, %e6, H0, H1, H2, H3, H4, H5, H6⟩
  isplitl [HΦ]; · iexact HΦ
  isplitl [Howes]; · iexact Howes
  isplitl [H0]; · iapply (owns_close d (M := win0_0.stage (cfg0.slots t 0)) (hstage0_0 ((cfg0.slots t 0).cast nbuf0_0)) f0 e0) $$ H0
  isplitl [H1]; · iapply (owns_close d (M := win0_1.stage (cfg0.slots t 1)) (hstage0_1 ((cfg0.slots t 1).cast nbuf0_1)) f1 e1) $$ H1
  isplitl [H2]; · iapply (owns_close d (M := win0_2.stage (cfg0.slots t 2)) (hstage0_2 ((cfg0.slots t 2).cast nbuf0_2)) f2 e2) $$ H2
  isplitl [H3]; · iapply (owns_close d (M := win0_3.stage (cfg0.slots t 3)) (hstage0_3 ((cfg0.slots t 3).cast nbuf0_3)) f3 e3) $$ H3
  isplitl [H4]; · iapply (owns_close d (M := win0_4.stage (cfg0.slots t 4)) (hstage0_4 ((cfg0.slots t 4).cast nbuf0_4)) g4 (e4.trans (congrArg k0_pay1 e0))) $$ H4
  isplitl [H5]; · iapply (owns_close d (M := win0_5.stage (cfg0.slots t 5)) (hstage0_5 ((cfg0.slots t 5).cast nbuf0_5)) g5 (e5.trans (congrArg k0_pay2 e1))) $$ H5
  iapply (owns_close d (M := win0_6.stage (cfg0.slots t 6)) (hstage0_6 ((cfg0.slots t 6).cast nbuf0_6)) g6 (e6.trans (congrArg₂ k0_pay3 e3 e2))) $$ H6

theorem read_blk4 (t : Fin cfg0.N) (A : Vec F S16384x300 .f32) : ((cfg0.win 4).blk t).view.read (Elt F) A = rows300 A t.val (pt_lt t) := by
  obtain ⟨e0, e1⟩ := index4 t
  funext j
  refine congrArg A (funext fun a => Fin.ext ?_)
  match a with
  | ⟨0, _⟩ => show win0_4.index t (0 : Fin 2) * 256 + 1 * (j 0).val = t.val * 256 + (j 0).val; rw [e0]; omega
  | ⟨1, _⟩ => show win0_4.index t (1 : Fin 2) * 300 + 1 * (j 1).val = (j 1).val; rw [e1]; omega
theorem read_blk5 (t : Fin cfg0.N) (A : Vec F S16384x300 .f32) : ((cfg0.win 5).blk t).view.read (Elt F) A = rows300 A t.val (pt_lt t) := by
  obtain ⟨e0, e1⟩ := index5 t
  funext j
  refine congrArg A (funext fun a => Fin.ext ?_)
  match a with
  | ⟨0, _⟩ => show win0_5.index t (0 : Fin 2) * 256 + 1 * (j 0).val = t.val * 256 + (j 0).val; rw [e0]; omega
  | ⟨1, _⟩ => show win0_5.index t (1 : Fin 2) * 300 + 1 * (j 1).val = (j 1).val; rw [e1]; omega
theorem read_blk6 (t : Fin cfg0.N) (A : Vec F S16384x1 .i32) : ((cfg0.win 6).blk t).view.read (Elt F) A = rows1 A t.val (pt_lt t) := by
  obtain ⟨e0, e1⟩ := index6 t
  funext j
  refine congrArg A (funext fun a => Fin.ext ?_)
  match a with
  | ⟨0, _⟩ => show win0_6.index t (0 : Fin 2) * 256 + 1 * (j 0).val = t.val * 256 + (j 0).val; rw [e0]; omega
  | ⟨1, _⟩ => show win0_6.index t (1 : Fin 2) * 1 + 1 * (j 1).val = (j 1).val; rw [e1]; omega

/-- Block `n` of an array computed block by block is the computation on block `n`. -/
theorem rows300_blocks (f : Vec F S256x300 .f32 → Vec F S256x300 .f32) (A : Vec F S16384x300 .f32) (n : ℕ) (hn : n < 64) :
    rows300 (fun i => f (rows300 A _ (blk300_lt i)) (in300 i)) n hn = f (rows300 A n hn) := by
  have key : ∀ (n' : ℕ) (hn' : n' < 64) (y y' : S256x300.Idx), n' = n → y' = y → f (rows300 A n' hn') y' = f (rows300 A n hn) y := by
    rintro n' hn' y y' rfl rfl; rfl
  funext y
  have hy : (y 0).val < 256 := (y 0).isLt
  refine key _ _ y _ (show (n * 256 + (y 0).val) / 256 = n by omega) (funext fun a => Fin.ext ?_)
  match a with
  | ⟨0, _⟩ => show (n * 256 + (y 0).val) % 256 = (y 0).val; omega
  | ⟨1, _⟩ => rfl
/-- The same of a 16384×1 array computed of two. -/
theorem rows1_blocks (f : Vec F S256x1 .f32 → Vec F S256x1 .f32 → Vec F S256x1 .i32) (A B : Vec F S16384x1 .f32) (n : ℕ) (hn : n < 64) :
    rows1 (fun i => f (rows1 A _ (blk1_lt i)) (rows1 B _ (blk1_lt i)) (in1 i)) n hn = f (rows1 A n hn) (rows1 B n hn) := by
  have key : ∀ (n' : ℕ) (hn' : n' < 64) (y y' : S256x1.Idx), n' = n → y' = y →
      f (rows1 A n' hn') (rows1 B n' hn') y' = f (rows1 A n hn) (rows1 B n hn) y := by
    rintro n' hn' y y' rfl rfl; rfl
  funext y
  have hy : (y 0).val < 256 := (y 0).isLt
  refine key _ _ y _ (show (n * 256 + (y 0).val) / 256 = n by omega) (funext fun a => Fin.ext ?_)
  match a with
  | ⟨0, _⟩ => show (n * 256 + (y 0).val) % 256 = (y 0).val; omega
  | ⟨1, _⟩ => rfl

/-- Window 4's blocks cover its array. -/
theorem cover4 (i : S16384x300.Idx) : ∃ t : Fin cfg0.N, (cfg0.win 4).flush t = true ∧ i ∈ ((cfg0.win 4).blk t).view.set := by
  have ht : (i 0).val / 256 < cfg0.N := Nat.lt_of_lt_of_eq (blk300_lt i) N_0.symm
  obtain ⟨e0, e1⟩ := index4 ⟨(i 0).val / 256, ht⟩
  refine ⟨⟨(i 0).val / 256, ht⟩, flush0_4 _, ?_⟩
  have h := ((cfg0.win 4).blk ⟨(i 0).val / 256, ht⟩).view.emb_mem_set (in300 i)
  have e : ((cfg0.win 4).blk ⟨(i 0).val / 256, ht⟩).view.emb (in300 i) = i := by
    funext a; apply Fin.ext
    match a with
    | ⟨0, _⟩ => show win0_4.index ⟨(i 0).val / 256, ht⟩ (0 : Fin 2) * 256 + 1 * ((i 0).val % 256) = (i 0).val; rw [e0]; show (i 0).val / 256 * 256 + 1 * ((i 0).val % 256) = _; omega
    | ⟨1, _⟩ => show win0_4.index ⟨(i 0).val / 256, ht⟩ (1 : Fin 2) * 300 + 1 * (i 1).val = (i 1).val; rw [e1]; omega
  rwa [e] at h
/-- What the region leaves in window 4's array. -/
theorem final4 (d : Dev nD) : (dat A0 A1 A2 A3 B4 B5 B6 d).arrAt 4 cfg0.N = lpFn A0 :=
  (dat A0 A1 A2 A3 B4 B5 B6 d).arrAt_eq_of_cover 4 (lpFn A0)
    (fun t _ => by
      rw [read_blk4]
      exact (rows300_blocks (fun X => k0_pay1 X) A0 t.val (pt_lt t)).symm)
    cover4

/-- Window 5's blocks cover its array. -/
theorem cover5 (i : S16384x300.Idx) : ∃ t : Fin cfg0.N, (cfg0.win 5).flush t = true ∧ i ∈ ((cfg0.win 5).blk t).view.set := by
  have ht : (i 0).val / 256 < cfg0.N := Nat.lt_of_lt_of_eq (blk300_lt i) N_0.symm
  obtain ⟨e0, e1⟩ := index5 ⟨(i 0).val / 256, ht⟩
  refine ⟨⟨(i 0).val / 256, ht⟩, flush0_5 _, ?_⟩
  have h := ((cfg0.win 5).blk ⟨(i 0).val / 256, ht⟩).view.emb_mem_set (in300 i)
  have e : ((cfg0.win 5).blk ⟨(i 0).val / 256, ht⟩).view.emb (in300 i) = i := by
    funext a; apply Fin.ext
    match a with
    | ⟨0, _⟩ => show win0_5.index ⟨(i 0).val / 256, ht⟩ (0 : Fin 2) * 256 + 1 * ((i 0).val % 256) = (i 0).val; rw [e0]; show (i 0).val / 256 * 256 + 1 * ((i 0).val % 256) = _; omega
    | ⟨1, _⟩ => show win0_5.index ⟨(i 0).val / 256, ht⟩ (1 : Fin 2) * 300 + 1 * (i 1).val = (i 1).val; rw [e1]; omega
  rwa [e] at h
/-- What the region leaves in window 5's array. -/
theorem final5 (d : Dev nD) : (dat A0 A1 A2 A3 B4 B5 B6 d).arrAt 5 cfg0.N = pFn A1 :=
  (dat A0 A1 A2 A3 B4 B5 B6 d).arrAt_eq_of_cover 5 (pFn A1)
    (fun t _ => by
      rw [read_blk5]
      exact (rows300_blocks (fun X => k0_pay2 X) A1 t.val (pt_lt t)).symm)
    cover5

/-- Window 6's blocks cover its array. -/
theorem cover6 (i : S16384x1.Idx) : ∃ t : Fin cfg0.N, (cfg0.win 6).flush t = true ∧ i ∈ ((cfg0.win 6).blk t).view.set := by
  have ht : (i 0).val / 256 < cfg0.N := Nat.lt_of_lt_of_eq (blk1_lt i) N_0.symm
  obtain ⟨e0, e1⟩ := index6 ⟨(i 0).val / 256, ht⟩
  refine ⟨⟨(i 0).val / 256, ht⟩, flush0_6 _, ?_⟩
  have h := ((cfg0.win 6).blk ⟨(i 0).val / 256, ht⟩).view.emb_mem_set (in1 i)
  have e : ((cfg0.win 6).blk ⟨(i 0).val / 256, ht⟩).view.emb (in1 i) = i := by
    funext a; apply Fin.ext
    match a with
    | ⟨0, _⟩ => show win0_6.index ⟨(i 0).val / 256, ht⟩ (0 : Fin 2) * 256 + 1 * ((i 0).val % 256) = (i 0).val; rw [e0]; show (i 0).val / 256 * 256 + 1 * ((i 0).val % 256) = _; omega
    | ⟨1, _⟩ => show win0_6.index ⟨(i 0).val / 256, ht⟩ (1 : Fin 2) * 1 + 1 * (i 1).val = (i 1).val; rw [e1]; omega
  rwa [e] at h
/-- What the region leaves in window 6's array. -/
theorem final6 (d : Dev nD) : (dat A0 A1 A2 A3 B4 B5 B6 d).arrAt 6 cfg0.N = sFn A2 A3 :=
  (dat A0 A1 A2 A3 B4 B5 B6 d).arrAt_eq_of_cover 6 (sFn A2 A3)
    (fun t _ => by
      rw [read_blk6]
      exact (rows1_blocks (fun X Y => k0_pay3 Y X) A2 A3 t.val (pt_lt t)).symm)
    cover6

end Data

/-! ## The region over the TensorCore's state -/

variable (V : (d : Dev nD) → (b : Ref sig .tc) → Buf (Elt F) ((d : Thread nD τ).loc b))

/-- The region's data family: the one pipeline's, at a valuation of the TensorCore's buffers. -/
def pdats : (p : Fin 1) → (d : Dev nD) → Dat τ (Elt F) (HIx 1) ℕ UU ℕ (Pipeline.pin (pcfgs (F := F)) adm p) d
  | ⟨0, _⟩ => fun d => dat (V d main_arg0) (V d main_arg1) (V d main_arg2) (V d main_arg3) (V d main_v0_0) (V d main_v0_1) (V d main_v0_2) d

/-- The handshakes' and the pipeline's shares of the ghost state. -/
def EH : Emb UH 𝕄 := ((Emb.inl : Emb UH (UH × UP)).trans (Emb.inl : Emb (UH × UP) UU)).trans (uEmb (nD := nD) (sig := sig) (Val := Elt F) (Name := ℕ) (Ix := HIx 1) (Lvl := ℕ)).toEmb
def EP : Emb UP 𝕄 := ((Emb.inr : Emb UP (UH × UP)).trans (Emb.inl : Emb (UH × UP) UU)).trans (uEmb (nD := nD) (sig := sig) (Val := Elt F) (Name := ℕ) (Ix := HIx 1) (Lvl := ℕ)).toEmb
instance EH_landsIn : (EH (F := F)).LandsIn upEmb := by unfold EH; infer_instance
instance EP_landsIn : (EP (F := F)).LandsIn upEmb := by unfold EP; infer_instance

/-- What the TensorCore owes the SparseCores before the call, having recorded only waits below them. -/
def owesTc (d : Dev nD) : sProp 𝕄 :=
  iprop(∃ W, ⌜(K (F := F)).WBelow (T d) W 0⌝ ∗ owes (T d) ((K (F := F)).Otc d 0) W)

/-- The TensorCore owes nothing at the kernel's own index. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The seven arrays of the region after it. -/
def arrs (d : Dev nD) : sProp 𝕄 :=
  iprop((((d : Thread nD τ).loc main_arg0) ↦{fullShare} V d main_arg0) ∗ (((d : Thread nD τ).loc main_arg1) ↦{fullShare} V d main_arg1)
    ∗ (((d : Thread nD τ).loc main_arg2) ↦{fullShare} V d main_arg2) ∗ (((d : Thread nD τ).loc main_arg3) ↦{fullShare} V d main_arg3)
    ∗ (((d : Thread nD τ).loc main_v0_0) ↦{fullShare} lpFn (V d main_arg0)) ∗ (((d : Thread nD τ).loc main_v0_1) ↦{fullShare} pFn (V d main_arg1))
    ∗ (((d : Thread nD τ).loc main_v0_2) ↦{fullShare} sFn (V d main_arg2) (V d main_arg3)))

/-- Equal halves make equal conjunctions, and equal contents equal points-tos. -/
theorem sep_congr {A A' B B' : sProp 𝕄} (h : A = A') (h' : B = B') : iprop(A ∗ B) = iprop(A' ∗ B') := h ▸ h' ▸ rfl
theorem pt_congr (ℓ : Loc nD τ sig) {f g : Buf (Elt F) ℓ} (h : f = g) : ((ℓ ↦{fullShare} f) : sProp 𝕄) = (ℓ ↦{fullShare} g) := h ▸ rfl

set_option backward.isDefEq.respectTransparency.types false in
/-- The region, from the TensorCore's buffers at a valuation and its debt to the SparseCores, to the seven arrays as it
    leaves them, the other buffers as they were, and the same debt. -/
def reg : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation _ _ _ _ _ _ _ d).loose
  hwaits d := Pipeline.cellsWaits_intro _ _ _ 0 d fun w s t => (K (F := F)).mayWait_none _ (Otc_none d 0)
  pre d := iprop(unscopedBufs d (V d) ∗ owesTc d)
  post d := iprop(arrs V d ∗ Pipeline.unscopedRest (Ix := HIx 1) (Name := ℕ) (U := UU) (Lvl := ℕ) spec0 d (V d) ∗ owesTc d)
  X _ := BI.emp
  Y _ := BI.emp
  Z d := Pipeline.unscopedRest (Ix := HIx 1) (Name := ℕ) (U := UU) (Lvl := ℕ) spec0 d (V d)
  hentry d := by
    rw [Pipeline.ownSems0_none]
    have hsplit := Pipeline.arrays_of_unscopedBufs (p := 0) (pcfgs (F := F)) adm (pdats V) launch0.win launch0.arr_whole d
      ((pdats V 0 d).share_full fun _ => rfl) (V d) fun w => by fin_cases w <;> rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats V 0 d).Φ 0 = BI.emp from rfl]
    show iprop(_ ∗ _ ∗ Pipeline.scopedRest spec0 d) ⊢ _
    rw [scopedRest0_eq]
    iintro -; iempintro
  hout d := by
    rw [Pipeline.ownSems0_none, show (pdats V 0 d).Φ (Fin.last _) = BI.emp from rfl]
    show _ ⊢ iprop(_ ∗ _ ∗ Pipeline.scopedRest spec0 d)
    rw [scopedRest0_eq]
    iintro -
    isplitr; · iempintro
    isplitr <;> iempintro
  hexit d := by
    have e : (pdats V 0 d).arrays ((pdats V 0 d).arrAt · (Pipeline.pin (pcfgs (F := F)) adm 0).N) = arrs V d := by
      rw [Pipeline.arrays_eq (fun p => Pipeline.pin (pcfgs (F := F)) adm p) (pdats V) 0 d launch0.arr_whole ((pdats V 0 d).share_full fun _ => rfl)]
      exact (bigSep_W0 _).trans (sep_congr (pt_congr ((d : Thread nD τ).loc main_arg0) ((pdats V 0 d).arrAt_in 0 rfl _)) (
        sep_congr (pt_congr ((d : Thread nD τ).loc main_arg1) ((pdats V 0 d).arrAt_in 1 rfl _)) (
        sep_congr (pt_congr ((d : Thread nD τ).loc main_arg2) ((pdats V 0 d).arrAt_in 2 rfl _)) (
        sep_congr (pt_congr ((d : Thread nD τ).loc main_arg3) ((pdats V 0 d).arrAt_in 3 rfl _)) (
        sep_congr (pt_congr ((d : Thread nD τ).loc main_v0_0) (final4 _ _ _ _ _ _ _ d)) (
        sep_congr (pt_congr ((d : Thread nD τ).loc main_v0_1) (final5 _ _ _ _ _ _ _ d)) (
        pt_congr ((d : Thread nD τ).loc main_v0_2) (final6 _ _ _ _ _ _ _ d))))))))
    rw [e]
    iintro ⟨Ha, HO, -, Hrest⟩
    imodintro
    isplitl [Ha]; · iexact Ha
    isplitl [Hrest]; · iexact Hrest
    unfold owesTc Pipeline.Dat.owesAt Pipeline.owesWithin
    icases HO with ⟨%W, %hW, HO⟩; iexists W; isplitr
    · ipureintro
      intro p hp
      rcases hW hp with h | ⟨w, s, rfl⟩
      · exact h
      · exact le_refl 0
    iexact HO

end Cert.KernelIdeal.Run

end
-- ==== Proof.LaunchIdeal.lean ====
/-
  The whole launch: how the one SparseCore call's operands are dealt to the two SparseCores and their sixteen tasks each —
  shares of the three arrays the tasks read, and of the parts array the one row each task writes —, @main on the
  TensorCore with the pipelined region, the call and the operations after it, and the program's run with its result.
-/
module

public import proofs.«01_k».proof.Proof.RegionIdeal
public import Idealize.ShloMosaic.Lib.ShareLeaves

@[expose] public section

set_option maxRecDepth 16384

noncomputable section

namespace Cert.KernelIdeal.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

local notation "aV" => (Memref.whole Cert.KernelIdeal.main_v0_0_scv : Memref sig Kind.scVector Space.hbm S16384x300 EltTy.f32)
local notation "bV" => (Memref.whole Cert.KernelIdeal.main_v0_1_scv : Memref sig Kind.scVector Space.hbm S16384x300 EltTy.f32)
local notation "sV" => (Memref.whole Cert.KernelIdeal.main_v1_scv : Memref sig Kind.scVector Space.hbm S16384 EltTy.i32)
local notation "oV" => (Memref.whole Cert.KernelIdeal.main_v2_scv : Memref sig Kind.scVector Space.hbm S32x16 EltTy.f32)
local notation "xA" => (Memref.whole Cert.KernelIdeal.cc1_scratch0 : Memref sig Kind.scVector Space.vmem S128x300 EltTy.f32)
local notation "xB" => (Memref.whole Cert.KernelIdeal.cc1_scratch1 : Memref sig Kind.scVector Space.vmem S128x300 EltTy.f32)
local notation "xS" => (Memref.whole Cert.KernelIdeal.cc1_scratch2 : Memref sig Kind.scVector Space.vmem S128 EltTy.i32)
local notation "xO" => (Memref.whole Cert.KernelIdeal.cc1_scratch3 : Memref sig Kind.scVector Space.vmem S16 EltTy.f32)

/-! ## The rows of the parts array -/

/-- The grid point of a SparseCore and a task. -/
def coordsV (c : Fin (grid1.bound 0)) (s : Fin (grid1.bound 1)) : grid1.Coords :=
  fun | 0 => c | 1 => s | ⟨_ + 2, h⟩ => absurd h (Nat.not_lt.2 (Nat.le_add_left _ _))

/-- The same from plain numbers below two and sixteen. -/
abbrev pointAt (c : Fin 2) (i : Fin 16) : grid1.Coords := coordsV c i

/-- A row's elements are those whose first coordinate is sixteen times the SparseCore plus the task. -/
theorem mem_rowSet (c : Fin 2) (i : Fin 16) (x : S32x16.Idx) : x ∈ rowSet (pointAt c i) ↔ (x 0).val = 16 * c.val + i.val := by
  have e : rowSet (pointAt c i) = (rowK (pointAt c i)).set :=
    (View.set_reshape _ _).trans (View.set_slice_whole _ _)
  rw [e, Rect.mem_set_unit, k1_off4_eq, Fin.forall_fin_two]
  have h1 : (x 1).val < 16 := (x 1).isLt
  show (16 * c.val + i.val ≤ (x 0).val ∧ (x 0).val < 16 * c.val + i.val + 1) ∧ (0 ≤ (x 1).val ∧ (x 1).val < 0 + 16) ↔ _
  omega

/-- Different tasks write different rows. -/
theorem rows_disjoint : ∀ t ∈ (Finset.univ : Finset (Fin 2 × Fin 16)), ∀ t' ∈ (Finset.univ : Finset (Fin 2 × Fin 16)), t ≠ t' →
    Disjoint (rowSet (pointAt t.1 t.2)) (rowSet (pointAt t'.1 t'.2)) := by
  rintro ⟨c, i⟩ - ⟨c', i'⟩ - h
  rw [Finset.disjoint_left]
  intro x hx hx'
  rw [mem_rowSet] at hx hx'
  have := c.isLt; have := c'.isLt; have := i.isLt; have := i'.isLt
  apply h
  simp only at hx hx'
  rw [Prod.mk.injEq, Fin.ext_iff, Fin.ext_iff]
  omega

/-- The rows make up the array. -/
theorem rows_cover : (Finset.univ : Finset (Fin 2 × Fin 16)).biUnion (fun t => rowSet (pointAt t.1 t.2)) = Finset.univ := by
  ext x
  simp only [Finset.mem_biUnion, Finset.mem_univ, true_and, iff_true]
  have h0 : (x 0).val < 32 := (x 0).isLt
  refine ⟨(⟨(x 0).val / 16, by omega⟩, ⟨(x 0).val % 16, by omega⟩), ?_⟩
  rw [mem_rowSet]; simp only; omega

/-- The whole parts array is its 32 rows. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[rowSet (pointAt c i)]{fullShare} f := by
  rw [← bigSep_univ_prod (fun t : Fin 2 × Fin 16 => (oLoc d ↦[rowSet (pointAt t.1 t.2)]{fullShare} f : sProp 𝕄)),
    ← pointsTo_biUnion Finset.univ (ℓ := oLoc d) (fun t : Fin 2 × Fin 16 => rowSet (pointAt t.1 t.2)) rows_disjoint, rows_cover]

/-- A SparseCore's share of an array it reads, -/
abbrev coreShare (c : Fin 2) : PosShare TreeShare := ShareLeaves.leaf 1 fullShare c
/-- and a task's of its SparseCore's. -/
abbrev taskShare (c : Fin 2) (i : Fin 16) : PosShare TreeShare := ShareLeaves.leaf 4 (coreShare c) i

/-- An array read by all is its SparseCores' shares, -/
theorem coreShares (ℓ : Loc nD τ sig) (f : Buf (Elt F) ℓ) :
    (ℓ ↦{fullShare} f : sProp 𝕄) = bigSep Finset.univ fun c : Fin 2 => ℓ ↦{coreShare c} f :=
  ShareLeaves.pointsTo_leaves Finset.univ f 1 fullShare
/-- and a SparseCore's share its tasks' shares. -/
theorem taskShares (ℓ : Loc nD τ sig) (f : Buf (Elt F) ℓ) (c : Fin 2) :
    (ℓ ↦{coreShare c} f : sProp 𝕄) = bigSep Finset.univ fun i : Fin 16 => ℓ ↦{taskShare c i} f :=
  ShareLeaves.pointsTo_leaves Finset.univ f 4 (coreShare c)

variable [FloatOps F]

/-- The index of a lane in a vector of sixteen. -/
def lane16 (k : Fin 16) : S16.Idx := fun | 0 => k

/-- The parts array after the call: each row its task's sixteen sums. -/
def partsFn (lp p : S16384x300.Idx → F .f32) (s : S16384.Idx → BitVec 32) : S32x16.Idx → F .f32 :=
  fun x => part lp p s (pointAt ⟨(x 0).val / 16, by have : (x 0).val < 32 := (x 0).isLt; omega⟩ ⟨(x 0).val % 16, by omega⟩)
    (lane16 (x 1))

/-- What a task leaves in its row is the parts array there. -/
theorem row_written (lp p : S16384x300.Idx → F .f32) (s : S16384.Idx → BitVec 32) (o : S32x16.Idx → F .f32) (c : Fin 2) (i : Fin 16) :
    ∀ x ∈ rowSet (pointAt c i),
      (oRowK (pointAt c i)).view.write (Elt F) o (part lp p s (pointAt c i)) Finset.univ x = partsFn lp p s x := by
  intro x hx
  have hx0 := (mem_rowSet c i x).mp hx
  obtain ⟨y, -, hyx⟩ := Finset.mem_map.mp hx
  have hw : (oRowK (pointAt c i)).view.write (Elt F) o (part lp p s (pointAt c i)) Finset.univ x
      = part lp p s (pointAt c i) y := by
    rw [← hyx]
    exact congrFun (View.read_write_univ (Val := Elt F) (v := (oRowK (pointAt c i)).view) o (part lp p s (pointAt c i))) y
  rw [hw]
  have hy : Shape.reshapeEquiv squeezes_S1x16_S16.numel_eq y = (fun | 0 => ⟨0, Nat.one_pos⟩ | 1 => y 0 : S1x16.Idx) :=
    Shape.reshapeEquiv_eq_of_rowMajor _ (by
      rw [Shape.rowMajor_val_two, Shape.rowMajor_val_one]
      show 0 * 16 + (y 0).val = (y 0).val
      omega)
  have e1 : x 1 = y 0 := by
    rw [← hyx]
    apply Fin.ext
    show ((rowK (pointAt c i)).emb (Shape.reshapeEquiv squeezes_S1x16_S16.numel_eq y) 1).val = _
    rw [hy]
    show (k1_off4 (pointAt c i)) 1 + 1 * (y 0).val = (y 0).val
    rw [k1_off4_eq]
    show 0 + 1 * (y 0).val = _
    omega
  unfold partsFn
  have hi := i.isLt
  have ec : (⟨(x 0).val / 16, by omega⟩ : Fin 2) = c := Fin.ext (show (x 0).val / 16 = c.val by omega)
  have ei : (⟨(x 0).val % 16, by omega⟩ : Fin 16) = i := Fin.ext (show (x 0).val % 16 = i.val by omega)
  rw [ec, ei, e1]
  congr 1
  funext a
  fin_cases a
  rfl

/-! ## What the call takes and brings back -/

section Deal

variable (lp p : Dev nD → S16384x300.Idx → F .f32) (s : Dev nD → S16384.Idx → BitVec 32) (o : Dev nD → S32x16.Idx → F .f32)

/-- A SparseCore's operands, with its rows of the parts array at `o`. -/
def corePts (o : Dev nD → S32x16.Idx → F .f32) (d : Dev nD) (c : Fin 2) : sProp 𝕄 :=
  iprop((aLoc d ↦{coreShare c} lp d) ∗ (bLoc d ↦{coreShare c} p d) ∗ (sLoc d ↦{coreShare c} s d)
    ∗ bigSep Finset.univ fun i : Fin 16 => oLoc d ↦[rowSet (pointAt c i)]{fullShare} o d)
/-- A task's, with its row at `o`. -/
def taskPts (o : Dev nD → S32x16.Idx → F .f32) (d : Dev nD) (c : Fin 2) (i : Fin 16) : sProp 𝕄 :=
  iprop((aLoc d ↦{taskShare c i} lp d) ∗ (bLoc d ↦{taskShare c i} p d) ∗ (sLoc d ↦{taskShare c i} s d)
    ∗ (oLoc d ↦[rowSet (pointAt c i)]{fullShare} o d))

instance corePts_storable (o : Dev nD → S32x16.Idx → F .f32) (d : Dev nD) (c : Fin 2) : BI.Storable (upEmb : UEmb _ 𝕄) (corePts lp p s o d c) := by
  unfold corePts; infer_instance
instance taskPts_storable (o : Dev nD → S32x16.Idx → F .f32) (d : Dev nD) (c : Fin 2) (i : Fin 16) : BI.Storable (upEmb : UEmb _ 𝕄) (taskPts lp p s o d c i) := by
  unfold taskPts; infer_instance

/-- A SparseCore's operands are its tasks'. -/
theorem corePts_tasks (o : Dev nD → S32x16.Idx → F .f32) (d : Dev nD) (c : Fin 2) :
    corePts lp p s o d c = bigSep Finset.univ fun i : Fin 16 => taskPts lp p s o d c i := by
  unfold corePts taskPts
  rw [taskShares (aLoc d), taskShares (bLoc d), taskShares (sLoc d), bigSep_sep', bigSep_sep', bigSep_sep']

/-- The arrays whole are the SparseCores' operands. -/
theorem arrays_cores (o : Dev nD → S32x16.Idx → F .f32) (d : Dev nD) :
    iprop((aLoc d ↦{fullShare} lp d) ∗ (bLoc d ↦{fullShare} p d) ∗ (sLoc d ↦{fullShare} s d) ∗ (oLoc d ↦{fullShare} o d))
      = bigSep Finset.univ fun c : Fin 2 => corePts lp p s o d c := by
  unfold corePts
  rw [coreShares (aLoc d), coreShares (bLoc d), coreShares (sLoc d), oPts_rows, bigSep_sep', bigSep_sep', bigSep_sep']

/-- The parts each device's tasks compute. -/
abbrev partsOf (d : Dev nD) : S32x16.Idx → F .f32 := partsFn (lp d) (p d) (s d)

/-- The call takes each SparseCore's operands, each task its own, and brings them back with the parts written. -/
def P : (K (F := F)).Pay (nD := nD) (Val := Elt F) (Name := ℕ) (U := UU) where
  st := fun q d c => match q with | 0 => corePts lp p s o d c
  dn := fun q d c => match q with | 0 => corePts lp p s (partsOf lp p s) d c
  go := fun q d c i => match q with | 0 => taskPts lp p s o d c i
  td := fun q d c i => match q with | 0 => taskPts lp p s (partsOf lp p s) d c i
  x := fun _ _ => iprop(emp)

instance P_storable : (P lp p s o).IsStorable where
  st q d c := match q with | 0 => corePts_storable lp p s o d c
  dn q d c := match q with | 0 => corePts_storable lp p s (partsOf lp p s) d c
  go q d c i := match q with | 0 => taskPts_storable lp p s o d c i
  td q d c i := match q with | 0 => taskPts_storable lp p s (partsOf lp p s) d c i

/-- What a vector subcore runs at the call. -/
theorem defs₀_vector (c : Fin τ.nSC) (i : Fin τ.nSub) :
    defs₀ (F := F) (.scVector c i) 1 ()
      = SparseCore.onTile hcore1 hsub1 (fun c i => cc1__sc_body (coordsV c i)
          aV (Memref.isWhole_whole _) bV (Memref.isWhole_whole _) sV (Memref.isWhole_whole _) oV (Memref.isWhole_whole _)
          xA (Memref.isWhole_whole _) xB (Memref.isWhole_whole _) xS (Memref.isWhole_whole _) xO (Memref.isWhole_whole _)
          cc1_scoped0 cc1_scoped1 cc1_scoped2 cc1_scoped3) ⟨⟩ c i := rfl

/-- A task at its grid point, from its operands to its operands with the row written. -/
theorem task_body (hF : (K (F := F)).Facts) (d : Dev nD) (c : Fin 2) (i : Fin 16) (O : CellTallies nD τ sig (HIx 1)) (W : Waits sig (HIx 1))
    (hO : ∀ g, O g none = 0) :
    iprop(levAts (K (F := F)).L (K (F := F)).lev ∗ emp ∗ taskPts lp p s o d c i
        ∗ scopedBufs (V d (cV (pointAt c i)) (jV (pointAt c i))) ∗ scopedSems0 (V d (cV (pointAt c i)) (jV (pointAt c i)))
        ∗ owes (V d (cV (pointAt c i)) (jV (pointAt c i))) O W)
      ⊢ wp (M := 𝕄) frame (wpE (defs₀ (F := F)) 𝒱₀ (V d (cV (pointAt c i)) (jV (pointAt c i))) none) Set.univ
        (cc1__sc_body (pointAt c i) aV (Memref.isWhole_whole _) bV (Memref.isWhole_whole _) sV (Memref.isWhole_whole _) oV (Memref.isWhole_whole _)
          xA (Memref.isWhole_whole _) xB (Memref.isWhole_whole _) xS (Memref.isWhole_whole _) xO (Memref.isWhole_whole _)
          cc1_scoped0 cc1_scoped1 cc1_scoped2 cc1_scoped3)
        fun _ => iprop(taskPts lp p s (partsOf lp p s) d c i
          ∗ scopedBufs (V d (cV (pointAt c i)) (jV (pointAt c i))) ∗ scopedSems0 (V d (cV (pointAt c i)) (jV (pointAt c i)))
          ∗ ∃ W', ⌜∀ p ∈ W', p ∈ W ∨ p.2 = none ∨ p.2 = some (0 : Fin 1)⌝ ∗ owes (V d (cV (pointAt c i)) (jV (pointAt c i))) O W') := by
  refine (tile_body d (pointAt c i) hF (taskShare c i) (lp d) (p d) (s d) (o d) O W hO).trans (wp_mono frame _ _ fun _ => ?_)
  have e : (oLoc d ↦[rowSet (pointAt c i)]{fullShare} (oRowK (pointAt c i)).view.write (Elt F) (o d) (part (lp d) (p d) (s d) (pointAt c i)) Finset.univ : sProp 𝕄)
      = (oLoc d ↦[rowSet (pointAt c i)]{fullShare} partsOf lp p s d) := pointsTo_congr (row_written (lp d) (p d) (s d) (o d) c i)
  rw [e]
  unfold taskPts
  iintro ⟨Hp, Hb, Hs, %W', %hW', HO⟩
  isplitl [Hp]; · iexact Hp
  isplitl [Hb]; · iexact Hb
  isplitl [Hs]; · iexact Hs
  iexists W'; isplitr
  · ipureintro; exact fun p hp => (hW' p hp).imp_right Or.inl
  · iexact HO

/-- The call's obligation for a task. -/
theorem tileObl (hF : (K (F := F)).Facts) : (K (F := F)).TileObl (D (F := F)) 𝒱 (P lp p s o) v₀ 0 := by
  intro d c i O W hO _ _
  simp only [show (P lp p s o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_body lp p s o hF d c i O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands split among its tasks, and its tasks' results make up its own. -/
theorem vecSplit : (K (F := F)).VecSplit' (P lp p s o) 0 := by
  intro d c
  show corePts lp p s o d c ⊢ |={Set.univ}=> iprop(
      (bigSep Finset.univ fun i : Fin 16 => taskPts lp p s o d c i)
      ∗ ((bigSep Finset.univ fun i : Fin 16 => taskPts lp p s (partsOf lp p s) d c i) -∗ corePts lp p s (partsOf lp p s) d c))
  rw [corePts_tasks, corePts_tasks]
  iintro H; imodintro
  isplitl [H]; · iexact H
  iintro H; iexact H

/-- What the call takes, over both SparseCores, -/
theorem st0_eq (d : Dev nD) : (bigSep Finset.univ fun c : Fin ((K (F := F)).nCore 0) => (P lp p s o).st 0 d c)
    = iprop((aLoc d ↦{fullShare} lp d) ∗ (bLoc d ↦{fullShare} p d) ∗ (sLoc d ↦{fullShare} s d) ∗ (oLoc d ↦{fullShare} o d)) :=
  (arrays_cores lp p s o d).symm
/-- and what it brings back. -/
theorem dn0_eq (d : Dev nD) : (bigSep Finset.univ fun c : Fin ((K (F := F)).nCore 0) => (P lp p s o).dn 0 d c)
    = iprop((aLoc d ↦{fullShare} lp d) ∗ (bLoc d ↦{fullShare} p d) ∗ (sLoc d ↦{fullShare} s d) ∗ (oLoc d ↦{fullShare} partsOf lp p s d)) :=
  (arrays_cores lp p s (partsOf lp p s) d).symm

end Deal

end Cert.KernelIdeal.Run

end
-- ==== Proof.MainIdeal.lean ====
/-
  @main on the TensorCore — the pipelined region, the reshape of the shifts, the SparseCore call, and the operations that
  sum the parts —, and the program's run: the arguments unchanged, the result at its value, every counter at zero.
-/
module

public import proofs.«01_k».proof.Proof.LaunchIdeal

@[expose] public section

set_option maxRecDepth 16384

noncomputable section

namespace Cert.KernelIdeal.Run

open Cert.KernelIdeal Cert.KernelIdeal.Gen
open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The values -/

/-- The TensorCore's buffers at the launch. -/
abbrev VT (d : Dev nD) (b : Ref sig .tc) : Buf (Elt F) ((d : Thread nD τ).loc b) := m ((d : Thread nD τ).loc b)
/-- The log-probabilities, the probabilities and the shifts the region leaves, -/
def lpA (d : Dev nD) : S16384x300.Idx → F .f32 := lpFn (VT m d main_arg0)
def pA (d : Dev nD) : S16384x300.Idx → F .f32 := pFn (VT m d main_arg1)
def s2A (d : Dev nD) : S16384x1.Idx → BitVec 32 := sFn (F := F) (VT m d main_arg2) (VT m d main_arg3)
/-- the shifts as one axis, -/
def sA (d : Dev nD) : S16384.Idx → BitVec 32 := shapeCast S16384 (s2A m d) shapeCasts_S16384x1_S16384
/-- the parts array at the launch, -/
def oA (d : Dev nD) : S32x16.Idx → F .f32 := m (oLoc d)
/-- the parts after the call, -/
def partsA (d : Dev nD) : S32x16.Idx → F .f32 := partsFn (lpA m d) (pA m d) (sA m d)
/-- and the result: their sum, negated, over the number of rows. -/
def outA (d : Dev nD) : S_.Idx → F .f32 :=
  Host.divf (Host.negf (Host.reduceAdd (partsA m d) (constant S_ .f32 0x00000000#32) reducesTo_S32x16_S_d0_1 h_S_)) (constant S_ .f32 0x46800000#32)

/-- The call's payloads at these arrays. -/
abbrev Pm := P (lpA m) (pA m) (sA m) (oA m)

/-! ## The launch element of the ghost state -/

/-- The handshakes' rounds and the region's, and no transfers in flight. -/
def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

/-- What @main starts from beside the launch's own: the region's cells and tokens. -/
def G (d : Dev nD) : sProp 𝕄 :=
  iprop((Pipeline.cellsGhost (Pipeline.pin (pcfgs (F := F)) adm) EP 0 d : sProp 𝕄) ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair (initOf (K (F := F)).hsCells (K (F := F)).hsToks,
    initOf (Pipeline.cells (Pipeline.pin (pcfgs (F := F)) adm) cellOf_inj) (Pipeline.launchToks (Pipeline.pin (pcfgs (F := F)) adm) cellOf_inj)) (1 : Counters)) $$ Hu
  icases H with ⟨HH, -⟩
  ihave H := (show (BI.own ((embL : Emb (UH × UP) 𝕄) (initOf (K (F := F)).hsCells (K (F := F)).hsToks,
      initOf (Pipeline.cells (Pipeline.pin (pcfgs (F := F)) adm) cellOf_inj) (Pipeline.launchToks (Pipeline.pin (pcfgs (F := F)) adm) cellOf_inj))) : sProp 𝕄)
      ⊢ iprop(BI.own (EH (initOf (K (F := F)).hsCells (K (F := F)).hsToks))
        ∗ BI.own (EP (initOf (Pipeline.cells (Pipeline.pin (pcfgs (F := F)) adm) cellOf_inj) (Pipeline.launchToks (Pipeline.pin (pcfgs (F := F)) adm) cellOf_inj))))
      from BI.own_op_elim ((embL : Emb (UH × UP) 𝕄).op_of_mem (Prod.mk_mem_op (URA.mem_op_one _) (URA.mem_one_op _)))) $$ HH
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_emp']
  iempintro

/-! ## @main on the TensorCore -/

abbrev sB2 : DevRef τ sig := Proc.devRef .tc (main_v0_2 : Ref sig .tc)
abbrev sB : DevRef τ sig := Proc.devRef .tc (main_v1 : Ref sig .tc)
abbrev oB : DevRef τ sig := Proc.devRef .tc (main_v2 : Ref sig .tc)
abbrev zB : DevRef τ sig := Proc.devRef .tc (main_cst : Ref sig .tc)
abbrev tB : DevRef τ sig := Proc.devRef .tc (main_v3 : Ref sig .tc)
abbrev gB : DevRef τ sig := Proc.devRef .tc (main_v4 : Ref sig .tc)
abbrev nB : DevRef τ sig := Proc.devRef .tc (main_cst_0 : Ref sig .tc)
abbrev rB : DevRef τ sig := Proc.devRef .tc (main_v5 : Ref sig .tc)

abbrev opShape : HloOp τ sig (Elt F) := StableHlo.reshape main_v0_2 main_v1 (rfl : (.i32 : EltTy) = .i32) shapeCasts_S16384x1_S16384
abbrev opZero : HloOp τ sig (Elt F) := StableHlo.nullary main_cst (constant S_ .f32 0x00000000#32)
abbrev opSum : HloOp τ sig (Elt F) := StableHlo.binary main_v2 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opNeg : HloOp τ sig (Elt F) := StableHlo.unary main_v3 main_v4 (Host.negf : (⟨S_, .f32⟩ : BufTy).Contents (Elt F) → (⟨S_, .f32⟩ : BufTy).Contents (Elt F))
abbrev opCount : HloOp τ sig (Elt F) := StableHlo.nullary main_cst_0 (constant S_ .f32 0x46800000#32)
abbrev opDiv : HloOp τ sig (Elt F) := StableHlo.binary main_v4 main_cst_0 main_v5 (Host.divf : (⟨S_, .f32⟩ : BufTy).Contents (Elt F) → (⟨S_, .f32⟩ : BufTy).Contents (Elt F) → (⟨S_, .f32⟩ : BufTy).Contents (Elt F))

/-- The buffers of the reshape, and of the operations after the call. -/
abbrev S2 : Finset (DevRef τ sig) := {sB2, sB}
abbrev S6 : Finset (DevRef τ sig) := {oB, zB, tB, gB, nB, rB}

theorem held_S2 (d : Dev nD) (W : Valuation τ sig (Elt F)) :
    (held (SparseCore.T d) S2 W : sProp 𝕄) = iprop(((SparseCore.T d).loc main_v0_2 ↦{fullShare} W sB2) ∗ (SparseCore.T d).loc main_v1 ↦{fullShare} W sB) := by
  unfold held S2
  rw [SparseCore.bigSep_insert' (by decide), bigSep_singleton]
theorem held_S6 (d : Dev nD) (W : Valuation τ sig (Elt F)) :
    (held (SparseCore.T d) S6 W : sProp 𝕄)
      = iprop(((SparseCore.T d).loc main_v2 ↦{fullShare} W oB) ∗ ((SparseCore.T d).loc main_cst ↦{fullShare} W zB) ∗ ((SparseCore.T d).loc main_v3 ↦{fullShare} W tB)
        ∗ ((SparseCore.T d).loc main_v4 ↦{fullShare} W gB) ∗ ((SparseCore.T d).loc main_cst_0 ↦{fullShare} W nB) ∗ (SparseCore.T d).loc main_v5 ↦{fullShare} W rB) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The buffers when the reshape begins, -/
def VR (d : Dev nD) : Valuation τ sig (Elt F) := Function.update (fun b => m (d, b)) sB2 (s2A m d)
theorem VR_s2 (d : Dev nD) : VR m d sB2 = s2A m d := Function.update_self _ _ _
theorem VR_s (d : Dev nD) : VR m d sB = m ((SparseCore.T d).loc main_v1) := Function.update_of_ne (show sB ≠ sB2 by decide) _ _
theorem shape_s (d : Dev nD) : (opShape (F := F)).result (VR m d) sB = sA m d := by
  refine (StableHlo.reshape_result _ _ _ _ _ _ _).trans ?_
  rw [VR_s2]; rfl
theorem shape_s2 (d : Dev nD) : (opShape (F := F)).result (VR m d) sB2 = s2A m d :=
  ((opShape (F := F)).result_of_not_mem _ (show sB2 ∉ ({sB} : Finset (DevRef τ sig)) by decide)).trans (VR_s2 m d)

/-- the buffers after it, -/
theorem held_shape (d : Dev nD) : (held (SparseCore.T d) S2 ((opShape (F := F)).result (VR m d)) : sProp 𝕄)
    = iprop(((SparseCore.T d).loc main_v0_2 ↦{fullShare} s2A m d) ∗ (SparseCore.T d).loc main_v1 ↦{fullShare} sA m d) := by
  rw [held_S2, shape_s, shape_s2]

/-- and when the operations after the call begin. -/
def VE (d : Dev nD) : Valuation τ sig (Elt F) := Function.update (fun b => m (d, b)) oB (partsA m d)
theorem VE_o (d : Dev nD) : VE m d oB = partsA m d := Function.update_self _ _ _
theorem VE_z (d : Dev nD) : VE m d zB = m ((SparseCore.T d).loc main_cst) := Function.update_of_ne (show zB ≠ oB by decide) _ _
theorem VE_t (d : Dev nD) : VE m d tB = m ((SparseCore.T d).loc main_v3) := Function.update_of_ne (show tB ≠ oB by decide) _ _
theorem VE_g (d : Dev nD) : VE m d gB = m ((SparseCore.T d).loc main_v4) := Function.update_of_ne (show gB ≠ oB by decide) _ _
theorem VE_n (d : Dev nD) : VE m d nB = m ((SparseCore.T d).loc main_cst_0) := Function.update_of_ne (show nB ≠ oB by decide) _ _
theorem VE_r (d : Dev nD) : VE m d rB = m ((SparseCore.T d).loc main_v5) := Function.update_of_ne (show rB ≠ oB by decide) _ _

/-- The buffers after the operations, -/
def VF (d : Dev nD) : Valuation τ sig (Elt F) :=
  (opDiv (F := F)).result ((opCount (F := F)).result ((opNeg (F := F)).result ((opSum (F := F)).result ((opZero (F := F)).result (VE m d)))))
/-- the result among them. -/
theorem VF_r (d : Dev nD) : VF m d rB = outA m d := by
  have h : StableHlo.after [opZero (F := F), opSum, opNeg, opCount, opDiv] (VE m d) rB = outA m d := by
    after_results
    rw [VE_o]; rfl
  exact h

/-- and its buffer. -/
theorem held_end (d : Dev nD) :
    (held (SparseCore.T d) S6 ((opDiv (F := F)).result ((opCount (F := F)).result ((opNeg (F := F)).result ((opSum (F := F)).result ((opZero (F := F)).result (VE m d)))))) : sProp 𝕄)
      ⊢ ((SparseCore.T d).loc main_v5 ↦{fullShare} outA m d) := by
  rw [held_S6, show (opDiv (F := F)).result ((opCount (F := F)).result ((opNeg (F := F)).result ((opSum (F := F)).result ((opZero (F := F)).result (VE m d))))) rB
    = outA m d from VF_r m d]
  iintro ⟨-, -, -, -, -, H⟩; iexact H

theorem hZero : (opZero (F := F)).bufs ⊆ S6 := show ({zB} : Finset (DevRef τ sig)) ⊆ S6 by decide
theorem hSum : (opSum (F := F)).bufs ⊆ S6 := show ({oB, zB, tB} : Finset (DevRef τ sig)) ⊆ S6 by decide
theorem hNeg : (opNeg (F := F)).bufs ⊆ S6 := show ({tB, gB} : Finset (DevRef τ sig)) ⊆ S6 by decide
theorem hCount : (opCount (F := F)).bufs ⊆ S6 := show ({nB} : Finset (DevRef τ sig)) ⊆ S6 by decide
theorem hDiv : (opDiv (F := F)).bufs ⊆ S6 := show ({gB, nB, rB} : Finset (DevRef τ sig)) ⊆ S6 by decide

/-- What @main leaves: the arguments at their launch contents, the result at its value. -/
abbrev argPts (d : Dev nD) (b : Ref sig .tc) : sProp 𝕄 := (d : Thread nD τ).loc b ↦{fullShare} VT m d b
def FIN (d : Dev nD) : sProp 𝕄 :=
  iprop(argPts m d main_arg0 ∗ argPts m d main_arg1 ∗ argPts m d main_arg2 ∗ argPts m d main_arg3 ∗ ((SparseCore.T d).loc main_v5 ↦{fullShare} outA m d))

/-- The region, as @main calls it: from the TensorCore's buffers and its debt, the arrays written, the rest as it was. -/
theorem region_call [∀ e, Nonempty (Elt F e)] (d : Dev nD) (Q : PUnit → sProp 𝕄) :
    iprop((iprop(boundary (SparseCore.T d) ∗ arrs (VT m) d ∗ Pipeline.unscopedRest (Ix := HIx 1) (Name := ℕ) (U := UU) (Lvl := ℕ) spec0 d (VT m d) ∗ owesTc d) -∗ Q ⟨⟩)
        ∗ boundary (SparseCore.T d) ∗ (unscopedBufs d (VT m d) ∗ owesTc d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (pdats (VT m)) none cellOf_inj EP defs₀ 𝒱₀ (K (F := F)).L (K (F := F)).lev (reg (VT m)) d none
    (fun u hu => nomatch hu) (fun _ => Prog.ret ⟨⟩) Q
  have h' := h.trans ((K (F := F)).wp_liftProg (D (F := F)) 𝒱 (SparseCore.T d) Set.univ none _ Q)
  iintro ⟨Hk, Hb, Hpre, Hlev, HG⟩
  ihave Hpre' := (show iprop(unscopedBufs d (VT m d) ∗ owesTc d) ⊢ (reg (VT m)).pre d from .rfl) $$ Hpre
  iapply h'
  isplitl [Hk]
  · iintro H
    ihave H' := (show iprop(boundary (SparseCore.T d) ∗ (reg (VT m)).post d)
      ⊢ iprop(boundary (SparseCore.T d) ∗ arrs (VT m) d ∗ Pipeline.unscopedRest (Ix := HIx 1) (Name := ℕ) (U := UU) (Lvl := ℕ) spec0 d (VT m d) ∗ owesTc d) from .rfl) $$ H
    rw [wp_ret]; imodintro; iapply Hk; iexact H'
  isplitl [Hb]; · iexact Hb
  isplitl [Hpre']; · iexact Hpre'
  isplitl [Hlev]; · iexact Hlev
  unfold G; iexact HG

/-- @main on a device's TensorCore. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hbufs, Hts, -⟩, HG⟩
  ihave #Hlev := (SparseCore.Cfg.ctx_levAts κ) $$ Hctx
  ihave Hst' := (show (K (F := F)).tcSt EH d 0 ⊢ iprop(owesTc d ∗ (owesTc d -∗ (K (F := F)).tcSt EH d 0)) by
    unfold SparseCore.Cfg.tcSt owesTc
    iintro ⟨HO, Hr⟩
    isplitl [HO]; · iexact HO
    iintro HO
    isplitl [HO]; · iexact HO
    iexact Hr) $$ Hst
  icases Hst' with ⟨HO, Hst⟩
  iapply (region_call m d)
  isplitr [Hb Hbufs HO HG]
  · iintro ⟨Hb, Harr, Hrest, HO⟩
    ihave Hst' := Hst $$ HO
    ihave Harr' := (Entails.of_eq (show arrs (VT m) d = _ from by unfold arrs; exact rfl)) $$ Harr
    ihave Hrest' := (Entails.of_eq (unscopedRest0_eq d (VT m d))) $$ Hrest
    icases Harr' with ⟨H0, H1, H2, H3, Ha, Hp, Hs2⟩
    icases Hrest' with ⟨Hs, Ho, Hz, Ht, Hg, Hn, Hr⟩
    iapply (wp_hlo_within 𝒱 (SparseCore.T d) none Set.univ (op := opShape) (S := S2) (show ({sB2, sB} : Finset (DevRef τ sig)) ⊆ S2 by decide) (V := VR m d)) $$ [Hb Hs2 Hs]
    · isplitl [Hb]; · iexact Hb
      rw [held_S2, VR_s2, VR_s]
      isplitl [Hs2]; · iexact Hs2
      iexact Hs
    iintro ⟨Hb, Hheld⟩
    ihave Hheld' := (Entails.of_eq (held_shape m d)) $$ Hheld
    icases Hheld' with ⟨Hs2, Hs⟩
    rw [wp_ret]; imodintro
    iapply ((K (F := F)).wp_run (D (F := F)) 𝒱 (EH := EH) (P := Pm m) κ d 0)
    isplitr; · iexact Hctx
    isplitl [Hst']; · iexact Hst'
    isplitl [Ha Hp Hs Ho]
    · rw [st0_eq]
      isplitl [Ha]; · iexact Ha
      isplitl [Hp]; · iexact Hp
      isplitl [Hs]; · iexact Hs
      iexact Ho
    iintro ⟨Hst, Hdn⟩
    ihave Hdn' := (Entails.of_eq (dn0_eq (lpA m) (pA m) (sA m) (oA m) d)) $$ Hdn
    icases Hdn' with ⟨-, -, -, Ho⟩
    iapply (wp_hlo_within 𝒱 (SparseCore.T d) none Set.univ (op := opZero) (S := S6) hZero (V := VE m d)) $$ [Hb Ho Hz Ht Hg Hn Hr]
    · isplitl [Hb]; · iexact Hb
      rw [held_S6, VE_o, VE_z, VE_t, VE_g, VE_n, VE_r]
      isplitl [Ho]; · iexact Ho
      isplitl [Hz]; · iexact Hz
      isplitl [Ht]; · iexact Ht
      isplitl [Hg]; · iexact Hg
      isplitl [Hn]; · iexact Hn
      iexact Hr
    iintro H
    rw [wp_ret]; imodintro
    iapply (wp_hlo_within 𝒱 (SparseCore.T d) none Set.univ (op := opSum) (S := S6) hSum (V := (opZero (F := F)).result (VE m d))) $$ H
    iintro H
    rw [wp_ret]; imodintro
    iapply (wp_hlo_within 𝒱 (SparseCore.T d) none Set.univ (op := opNeg) (S := S6) hNeg (V := (opSum (F := F)).result ((opZero (F := F)).result (VE m d)))) $$ H
    iintro H
    rw [wp_ret]; imodintro
    iapply (wp_hlo_within 𝒱 (SparseCore.T d) none Set.univ (op := opCount) (S := S6) hCount (V := (opNeg (F := F)).result ((opSum (F := F)).result ((opZero (F := F)).result (VE m d))))) $$ H
    iintro H
    rw [wp_ret]; imodintro
    iapply (wp_hlo_within 𝒱 (SparseCore.T d) none Set.univ (op := opDiv) (S := S6) hDiv (V := (opCount (F := F)).result ((opNeg (F := F)).result ((opSum (F := F)).result ((opZero (F := F)).result (VE m d)))))) $$ H
    iintro ⟨Hb, Hheld⟩
    ihave Hheld' := (held_end m d) $$ Hheld
    rw [wp_ret]; imodintro; imodintro
    isplitl [Hst]; · iexact Hst
    isplitr [Hb Hts]
    · unfold FIN
      isplitl [H0]; · iexact H0
      isplitl [H1]; · iexact H1
      isplitl [H2]; · iexact H2
      isplitl [H3]; · iexact H3
      iexact Hheld'
    isplitl [Hb]; · iexact Hb
    iexact Hts
  isplitl [Hb]; · iexact Hb
  isplitl [Hbufs HO]
  · isplitl [Hbufs]; · iexact Hbufs
    iexact HO
  isplitr; · iexact Hlev
  iexact HG

/-! ## The program's run -/

/-- The final memory: the arguments unchanged, the result at its value. -/
def fq (d : Dev nD) (s' : Phys nD τ sig (Elt F)) : Prop :=
  s'.mem.mem ((SparseCore.T d).loc main_v5) = outA m d ∧ s'.mem.mem ((SparseCore.T d).loc main_arg0) = VT m d main_arg0 ∧ s'.mem.mem ((SparseCore.T d).loc main_arg1) = VT m d main_arg1
    ∧ s'.mem.mem ((SparseCore.T d).loc main_arg2) = VT m d main_arg2 ∧ s'.mem.mem ((SparseCore.T d).loc main_arg3) = VT m d main_arg3

theorem hfin (d : Dev nD) (s' : Phys nD τ sig (Elt F)) : iprop(FIN m d ∗ SI s') ⊢ (⌜fq m d s'⌝ : sProp 𝕄) := by
  unfold FIN
  iintro ⟨⟨H0, H1, H2, H3, Hr⟩, HSI⟩
  ihave H := (persistent_entails_right (SI_pointsTo_agree (st := s') (ℓ := (SparseCore.T d).loc main_arg0) (I := Finset.univ) (q := fullShare) (f := VT m d main_arg0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := VT m d main_arg1))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := VT m d main_arg2))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := VT m d main_arg3))) $$ [HSI H3]
  · isplitl [HSI] <;> iassumption
  icases H with ⟨%h3, HSI, -⟩
  ihave H := (SI_pointsTo_agree (st := s') (ℓ := (SparseCore.T d).loc main_v5) (I := Finset.univ) (q := fullShare) (f := outA m d)) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i)⟩

/-- The run's end: on every device the result at its value and the arguments unchanged; every counter at zero. -/
def QC : PUnit × MemSt nD τ sig (Elt F) → Prop := fun r =>
  (∀ d : Dev nD, r.2.mem ((SparseCore.T d).loc main_v5) = outA m d ∧ r.2.mem ((SparseCore.T d).loc main_arg0) = m ((SparseCore.T d).loc main_arg0)
    ∧ r.2.mem ((SparseCore.T d).loc main_arg1) = m ((SparseCore.T d).loc main_arg1) ∧ r.2.mem ((SparseCore.T d).loc main_arg2) = m ((SparseCore.T d).loc main_arg2)
    ∧ r.2.mem ((SparseCore.T d).loc main_arg3) = m ((SparseCore.T d).loc main_arg3)) ∧ r.2.sem = fun _ => 0

/-- Every weakly fair run ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (lpA m) (pA m) (sA m) (oA m) facts)
    (fun q _ => match q with | 0 => SparseCore.Cfg.VecSplit.of_plain (vecSplit (lpA m) (pA m) (sA m) (oA m)))
    m ρ main (fun d => G d) (FIN m) (u₀ (F := F)) (sep_elim_left.trans (hu₀ m)) (hmain m ρ) (fq m) (hfin m) (QC m) (fun _ h hz => ⟨h, hz⟩)

end Cert.KernelIdeal.Run

end
-- ==== Proof.RefRun.lean ====
/- The reference's run. Its @main is a line of host operations, some of them inside the functions that it calls; here it
   is the one list of all of them in order (`ops0`, then `ops1`), shown equal to the program step by step, and its run
   read back: every buffer ends at the operations' composed term of the arguments. -/
module

public import proofs.«01_k».proof.Proof.Gen.ReferenceIdeal
public import Idealize.ShloMosaic.Lib.StableHlo.Run
public import Idealize.ShloMosaic.Lib.Quiescent

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ### What the operations compute, in stages -/

/-- Every row less its greatest entry. -/
def centred (a : FVec F S16384x300 .f32) : FVec F S16384x300 .f32 :=
  subf a (broadcastInDim S16384x300 ![0, 1] bcast_S16384x1_S16384x300_0_1 (broadcastInDim S16384x1 ![0] bcast_S16384_S16384x1_0
    (maximumf (broadcastInDim S16384 ![] bcast_S_S16384 (constant S_ .f32 0xFF800000#32))
      (Host.reduce FloatOps.maximumf a (constant S_ .f32 0xFF800000#32) reducesTo_S16384x300_S16384_d1 h_S_))))

/-- Each row's sum of the exponentials of the centred row. -/
def expSum (a : FVec F S16384x300 .f32) : FVec F S16384 .f32 :=
  Host.reduceAdd (Host.exp (centred a)) (constant S_ .f32 0x00000000#32) reducesTo_S16384x300_S16384_d1 h_S_

/-- The log-softmax of every row. -/
def logSoftmax (a : FVec F S16384x300 .f32) : FVec F S16384x300 .f32 :=
  subf (centred a) (broadcastInDim S16384x300 ![0, 1] bcast_S16384x1_S16384x300_0_1
    (Host.log (broadcastInDim S16384x1 ![0] bcast_S16384_S16384x1_0 (expSum a))))

/-- The softmax of every row. -/
def softmax (a : FVec F S16384x300 .f32) : FVec F S16384x300 .f32 :=
  Host.divf (Host.exp (centred a)) (broadcastInDim S16384x300 ![0, 1] bcast_S16384x1_S16384x300_0_1
    (broadcastInDim S16384x1 ![0] bcast_S16384_S16384x1_0 (expSum a)))

/-- Each row's shift: minus the rounded logarithm of the two rates' ratio, over the width of a bin. -/
def shift (ri rj : FVec F S16384x1 .f32) : IVec S16384 32 :=
  negi (shapeCast S16384 (fptosi 32 (Host.roundeven (Host.divf (Host.log (Host.divf rj ri))
    (broadcastInDim S16384x1 ![] bcast_S_S16384x1 (constant S_ .f32 0x3C13E549#32))))) shapeCasts_S16384x1_S16384)

/-- The places 0 to 299 along every row. -/
def places : IVec S16384x300 32 :=
  broadcastInDim S16384x300 ![0, 1] bcast_S1x300_S16384x300_0_1 (broadcastInDim S1x300 ![1] bcast_S300_S1x300_1 (iotaInDim S300 32 0))

/-- A value of every row, along the row. -/
def along (s : IVec S16384 32) : IVec S16384x300 32 :=
  broadcastInDim S16384x300 ![0, 1] bcast_S16384x1_S16384x300_0_1 (broadcastInDim S16384x1 ![0] bcast_S16384_S16384x1_0 s)

/-- The divisor of the remainder: 300, or 1 were it zero. -/
def divisor : IVec S_ 32 :=
  select (cmpi .eq (id (constantI S_ 32 300#32)) (constantI S_ 32 0#32)) (constantI S_ 32 1#32) (id (constantI S_ 32 300#32))

/-- The remainder of `x` by 300 that has the sign of `x`. -/
def signedRem (x : IVec S16384x300 32) : IVec S16384x300 32 :=
  Host.remsi x (broadcastInDim S16384x300 ![] bcast_S_S16384x300 divisor)

/-- The remainder of `x` by 300 that has the sign of 300. -/
def floorRem (x : IVec S16384x300 32) : IVec S16384x300 32 :=
  select (andi (cmpi .ne (cmpi .slt (signedRem x) (broadcastInDim S16384x300 ![] bcast_S_S16384x300 (constantI S_ 32 0#32)))
      (broadcastInDim S16384x300 ![] bcast_S_S16384x300 (cmpi .slt divisor (constantI S_ 32 0#32))))
      (cmpi .ne (signedRem x) (broadcastInDim S16384x300 ![] bcast_S_S16384x300 (constantI S_ 32 0#32))))
    (addi (signedRem x) (broadcastInDim S16384x300 ![] bcast_S_S16384x300 divisor)) (signedRem x)

/-- The place that the rolled row takes each entry from. -/
def rolled (s : IVec S16384 32) : IVec S16384x300 32 :=
  select (cmpi .slt (floorRem (subi places (along s))) (broadcastInDim S16384x300 ![] bcast_S_S16384x300 (constantI S_ 32 0#32)))
    (addi (floorRem (subi places (along s))) (broadcastInDim S16384x300 ![] bcast_S_S16384x300 (constantI S_ 32 300#32)))
    (floorRem (subi places (along s)))

/-- Which places of the rolled row are kept. -/
def kept (s : IVec S16384 32) : IVec S16384x300 1 :=
  select (broadcastInDim S16384x300 ![0] bcast_S16384_S16384x300_0
      (cmpi .sgt s (broadcastInDim S16384 ![] bcast_S_S16384 (constantI S_ 32 0#32))))
    (cmpi .sge places (along s))
    (select (broadcastInDim S16384x300 ![0] bcast_S16384_S16384x300_0
        (cmpi .slt s (broadcastInDim S16384 ![] bcast_S_S16384 (constantI S_ 32 0#32))))
      (cmpi .slt places (along (addi (broadcastInDim S16384 ![] bcast_S_S16384 (constantI S_ 32 300#32)) s)))
      (broadcastInDim S16384x300 ![1] bcast_S300_S16384x300_1 (broadcastInDim S300 ![] bcast_S_S300 (constantI S_ 1 1#1))))

/-- Every entry of the rolled and masked probabilities times the log-probabilities. -/
def terms (lp p : FVec F S16384x300 .f32) (s : IVec S16384 32) : FVec F S16384x300 .f32 :=
  mulf (mulf (Host.gather gather_S16384x300_S16384x300x1_S16384x300_n_1_0_0_1_2_11 p
    (broadcastInDim S16384x300x1 ![0, 1] bcast_S16384x300_S16384x300x1_0_1 (rolled s))) (uitofp .f32 (kept s))) lp

/-- Minus the mean over the rows of the rows' sums. -/
def loss (t : FVec F S16384x300 .f32) : FVec F S_ .f32 :=
  Host.negf (Host.divf (Host.reduceAdd (Host.reduceAdd t (constant S_ .f32 0x00000000#32) reducesTo_S16384x300_S16384_d1 h_S_)
    (constant S_ .f32 0x00000000#32) reducesTo_S16384_S_d0 h_S_) (constant S_ .f32 0x46800000#32))

/-- The reference's result as one function of its four arguments. -/
def REF (zi zj : FVec F S16384x300 .f32) (ri rj : FVec F S16384x1 .f32) : FVec F S_ .f32 :=
  loss (terms (logSoftmax zi) (softmax zj) (shift ri rj))

/-! ### The run -/

/-- The label signature of the program, which has no kernel. -/
abbrev Λr : Labels := Pipeline.Sig Λ₀ (Fin 0) fun p => (pcfgs (F := F) p).Adm

/-- One operation and then the line `l` is the line with the operation in front. -/
theorem step_seq {op : HloOp τ sig (Elt F)} {k : Prog (TpuEff nD τ sig (Elt F) (Λr (F := F)) .tc) PUnit}
    {l : List (HloOp τ sig (Elt F))} (h : k = seq l) :
    (hlo rfl op (fun _ => .ret (⟨⟩ : PUnit)) >>= fun _ => k) = seq (op :: l) := by subst h; rfl

/-- One operation is the line of it alone. -/
theorem last_seq {op : HloOp τ sig (Elt F)} :
    (hlo rfl op (fun _ => .ret (⟨⟩ : PUnit)) : Prog (TpuEff nD τ sig (Elt F) (Λr (F := F)) .tc) PUnit) = seq [op] := rfl

/-- A called function's line and then the line `l₂` is the one line of both. -/
theorem call_seq {b k : Prog (TpuEff nD τ sig (Elt F) (Λr (F := F)) .tc) PUnit}
    {l₁ l₂ l : List (HloOp τ sig (Elt F))} (hb : b = seq l₁) (hk : k = seq l₂) (hl : l = l₁ ++ l₂) :
    (b >>= fun _ => k) = seq l := by rw [hb, hk, hl, seq_append]

/-- Nothing more to run is the empty line. -/
theorem nil_seq : (pure ⟨⟩ : Prog (TpuEff nD τ sig (Elt F) (Λr (F := F)) .tc) PUnit) = seq [] := rfl

/-- The line of rounding. -/
abbrev opsRound (arg0 : TRef sig ⟨S16384x1, .f32⟩) (φ : fn_round.Bufs) : List (HloOp τ sig (Elt F)) :=
  [ TRef.unary arg0 φ.v0 Host.roundeven ]

theorem fn_round_eq (arg0 : TRef sig ⟨S16384x1, .f32⟩) (φ : fn_round.Bufs) :
    fn_round.body (F := F) arg0 φ = seq (opsRound arg0 φ) :=
  (step_seq nil_seq)

/-- The line of the logarithm of the softmax. -/
abbrev opsLogSoftmax (arg0 : TRef sig ⟨S16384x300, .f32⟩) (φ : fn_log_softmax.Bufs) : List (HloOp τ sig (Elt F)) :=
  [ TRef.nullary φ.cst (constant S_ .f32 0xFF800000#32),
    TRef.binary arg0 φ.cst φ.v0 (fun x v => Host.reduce FloatOps.maximumf x v reducesTo_S16384x300_S16384_d1 h_S_),
    TRef.nullary φ.cst_0 (constant S_ .f32 0xFF800000#32),
    TRef.unary φ.cst_0 φ.v1 (broadcastInDim S16384 ![] bcast_S_S16384),
    TRef.binary φ.v1 φ.v0 φ.v2 maximumf,
    TRef.unary φ.v2 φ.v3 (broadcastInDim S16384x1 ![0] bcast_S16384_S16384x1_0),
    TRef.unary φ.v3 φ.v4 (broadcastInDim S16384x300 ![0, 1] bcast_S16384x1_S16384x300_0_1),
    TRef.binary arg0 φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S16384x300_S16384_d1 h_S_),
    TRef.unary φ.v7 φ.v8 (broadcastInDim S16384x1 ![0] bcast_S16384_S16384x1_0),
    TRef.unary φ.v8 φ.v9 Host.log,
    TRef.unary φ.v9 φ.v10 (broadcastInDim S16384x300 ![0, 1] bcast_S16384x1_S16384x300_0_1),
    TRef.binary φ.v5 φ.v10 φ.v11 subf ]

theorem fn_log_softmax_eq (arg0 : TRef sig ⟨S16384x300, .f32⟩) (φ : fn_log_softmax.Bufs) :
    fn_log_softmax.body (F := F) arg0 φ = seq (opsLogSoftmax arg0 φ) :=
  (step_seq (step_seq (step_seq (step_seq (step_seq (step_seq (step_seq (step_seq (step_seq (step_seq (step_seq (step_seq (step_seq (step_seq (step_seq nil_seq)))))))))))))))

/-- The line of the remainder. -/
abbrev opsRemainder (arg0 : TRef sig ⟨S16384x300, .i32⟩) (arg1 : TRef sig ⟨S_, .i32⟩) (φ : fn_remainder.Bufs) : List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S16384x300 ![] bcast_S_S16384x300),
    TRef.binary arg0 φ.v3 φ.v4 Host.remsi,
    TRef.nullary φ.c_1 (constantI S_ 32 0#32),
    TRef.unary φ.c_1 φ.v5 (broadcastInDim S16384x300 ![] bcast_S_S16384x300),
    TRef.binary φ.v4 φ.v5 φ.v6 (cmpi .ne),
    TRef.nullary φ.c_2 (constantI S_ 32 0#32),
    TRef.unary φ.c_2 φ.v7 (broadcastInDim S16384x300 ![] bcast_S_S16384x300),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S16384x300 ![] bcast_S_S16384x300),
    TRef.binary φ.v8 φ.v10 φ.v11 (cmpi .ne),
    TRef.binary φ.v11 φ.v6 φ.v12 andi,
    TRef.unary φ.call0.v0 φ.v13 (broadcastInDim S16384x300 ![] bcast_S_S16384x300),
    TRef.binary φ.v4 φ.v13 φ.v14 addi,
    TRef.ternary φ.v12 φ.v14 φ.v4 φ.v15 select ]

theorem fn_remainder_eq (arg0 : TRef sig ⟨S16384x300, .i32⟩) (arg1 : TRef sig ⟨S_, .i32⟩) (φ : fn_remainder.Bufs) :
    fn_remainder.body (F := F) arg0 arg1 φ = seq (opsRemainder arg0 arg1 φ) :=
  (step_seq (step_seq (step_seq (step_seq (call_seq (l₁ := [TRef.ternary φ.v1 φ.c_0 φ.v0 φ.call0.v0 select]) (step_seq nil_seq) (step_seq (step_seq (step_seq (step_seq (step_seq (step_seq (step_seq (step_seq (step_seq (step_seq (step_seq (step_seq (step_seq (step_seq (step_seq (step_seq nil_seq)))))))))))))))) rfl)))))

/-- The line of the inner choice of the mask. -/
abbrev opsWhere0 (arg0 : TRef sig ⟨S16384, .i1⟩) (arg1 : TRef sig ⟨S16384x300, .i1⟩) (arg2 : TRef sig ⟨S300, .i1⟩) (φ : fn_where_0.Bufs) : List (HloOp τ sig (Elt F)) :=
  [ TRef.unary arg2 φ.v0 (broadcastInDim S16384x300 ![1] bcast_S300_S16384x300_1),
    TRef.unary arg0 φ.v1 (broadcastInDim S16384x300 ![0] bcast_S16384_S16384x300_0),
    TRef.ternary φ.v1 arg1 φ.v0 φ.v2 select ]

theorem fn_where_0_eq (arg0 : TRef sig ⟨S16384, .i1⟩) (arg1 : TRef sig ⟨S16384x300, .i1⟩) (arg2 : TRef sig ⟨S300, .i1⟩) (φ : fn_where_0.Bufs) :
    fn_where_0.body (F := F) arg0 arg1 arg2 φ = seq (opsWhere0 arg0 arg1 arg2 φ) :=
  (step_seq (step_seq (step_seq nil_seq)))

/-- The line of the outer choice of the mask. -/
abbrev opsWhere1 (arg0 : TRef sig ⟨S16384, .i1⟩) (arg1 : TRef sig ⟨S16384x300, .i1⟩) (arg2 : TRef sig ⟨S16384x300, .i1⟩) (φ : fn_where_1.Bufs) : List (HloOp τ sig (Elt F)) :=
  [ TRef.unary arg0 φ.v0 (broadcastInDim S16384x300 ![0] bcast_S16384_S16384x300_0),
    TRef.ternary φ.v0 arg1 arg2 φ.v1 select ]

theorem fn_where_1_eq (arg0 : TRef sig ⟨S16384, .i1⟩) (arg1 : TRef sig ⟨S16384x300, .i1⟩) (arg2 : TRef sig ⟨S16384x300, .i1⟩) (φ : fn_where_1.Bufs) :
    fn_where_1.body (F := F) arg0 arg1 arg2 φ = seq (opsWhere1 arg0 arg1 arg2 φ) :=
  (step_seq (step_seq nil_seq))

/-- The first part of @main. -/
abbrev ops0 : List (HloOp τ sig (Elt F)) :=
  [ binary main_arg3 main_arg2 main_v0 (Host.divf : (⟨S16384x1, .f32⟩ : BufTy).Contents (Elt F) → (⟨S16384x1, .f32⟩ : BufTy).Contents (Elt F) → (⟨S16384x1, .f32⟩ : BufTy).Contents (Elt F)),
    unary main_v0 main_v1 (Host.log : (⟨S16384x1, .f32⟩ : BufTy).Contents (Elt F) → (⟨S16384x1, .f32⟩ : BufTy).Contents (Elt F)),
    nullary main_cst (constant S_ .f32 0x3C13E549#32),
    unary main_cst main_v2 (broadcastInDim S16384x1 ![] bcast_S_S16384x1 : (⟨S_, .f32⟩ : BufTy).Contents (Elt F) → (⟨S16384x1, .f32⟩ : BufTy).Contents (Elt F)),
    binary main_v1 main_v2 main_v3 (Host.divf : (⟨S16384x1, .f32⟩ : BufTy).Contents (Elt F) → (⟨S16384x1, .f32⟩ : BufTy).Contents (Elt F) → (⟨S16384x1, .f32⟩ : BufTy).Contents (Elt F)),
    TRef.unary (TRef.of (T := ⟨S16384x1, .f32⟩) main_v3) (TRef.of (T := ⟨S16384x1, .f32⟩) main_v4) Host.roundeven,
    unary main_v4 main_v5 (fptosi 32 : (⟨S16384x1, .f32⟩ : BufTy).Contents (Elt F) → (⟨S16384x1, .i32⟩ : BufTy).Contents (Elt F)),
    reshape main_v5 main_v6 (rfl : (.i32 : EltTy) = .i32) shapeCasts_S16384x1_S16384,
    TRef.nullary (TRef.of (T := ⟨S_, .f32⟩) main_call1_cst) (constant S_ .f32 0xFF800000#32),
    TRef.binary (TRef.of (T := ⟨S16384x300, .f32⟩) main_arg0) (TRef.of (T := ⟨S_, .f32⟩) main_call1_cst) (TRef.of (T := ⟨S16384, .f32⟩) main_call1_v0) (fun x v => Host.reduce FloatOps.maximumf x v reducesTo_S16384x300_S16384_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S16384x1, .f32⟩) main_call1_v3) (broadcastInDim S16384x1 ![0] bcast_S16384_S16384x1_0),
    TRef.unary (TRef.of (T := ⟨S16384x1, .f32⟩) main_call1_v3) (TRef.of (T := ⟨S16384x300, .f32⟩) main_call1_v4) (broadcastInDim S16384x300 ![0, 1] bcast_S16384x1_S16384x300_0_1),
    TRef.binary (TRef.of (T := ⟨S16384x300, .f32⟩) main_arg0) (TRef.of (T := ⟨S16384x300, .f32⟩) main_call1_v4) (TRef.of (T := ⟨S16384x300, .f32⟩) main_call1_v5) subf,
    TRef.unary (TRef.of (T := ⟨S16384x300, .f32⟩) main_call1_v5) (TRef.of (T := ⟨S16384x300, .f32⟩) main_call1_v6) Host.exp,
    TRef.nullary (TRef.of (T := ⟨S_, .f32⟩) main_call1_cst_1) (constant S_ .f32 0x00000000#32),
    TRef.binary (TRef.of (T := ⟨S16384x300, .f32⟩) main_call1_v6) (TRef.of (T := ⟨S_, .f32⟩) main_call1_cst_1) (TRef.of (T := ⟨S16384, .f32⟩) main_call1_v7) (fun x v => Host.reduceAdd x v reducesTo_S16384x300_S16384_d1 h_S_),
    TRef.unary (TRef.of (T := ⟨S16384, .f32⟩) main_call1_v7) (TRef.of (T := ⟨S16384x1, .f32⟩) main_call1_v8) (broadcastInDim S16384x1 ![0] bcast_S16384_S16384x1_0),
    TRef.unary (TRef.of (T := ⟨S16384x1, .f32⟩) main_call1_v8) (TRef.of (T := ⟨S16384x1, .f32⟩) main_call1_v9) Host.log,
    TRef.unary (TRef.of (T := ⟨S16384x1, .f32⟩) main_call1_v9) (TRef.of (T := ⟨S16384x300, .f32⟩) main_call1_v10) (broadcastInDim S16384x300 ![0, 1] bcast_S16384x1_S16384x300_0_1),
    TRef.binary (TRef.of (T := ⟨S16384x300, .f32⟩) main_call1_v5) (TRef.of (T := ⟨S16384x300, .f32⟩) main_call1_v10) (TRef.of (T := ⟨S16384x300, .f32⟩) main_v7) subf,
    nullary main_cst_0 (constant S_ .f32 0xFF800000#32),
    binary main_arg1 main_cst_0 main_v8 ((fun x v => Host.reduce FloatOps.maximumf x v reducesTo_S16384x300_S16384_d1 h_S_) : (⟨S16384x300, .f32⟩ : BufTy).Contents (Elt F) → (⟨S_, .f32⟩ : BufTy).Contents (Elt F) → (⟨S16384, .f32⟩ : BufTy).Contents (Elt F)),
    nullary main_cst_1 (constant S_ .f32 0xFF800000#32),
    unary main_cst_1 main_v9 (broadcastInDim S16384 ![] bcast_S_S16384 : (⟨S_, .f32⟩ : BufTy).Contents (Elt F) → (⟨S16384, .f32⟩ : BufTy).Contents (Elt F)),
    binary main_v9 main_v8 main_v10 (maximumf : (⟨S16384, .f32⟩ : BufTy).Contents (Elt F) → (⟨S16384, .f32⟩ : BufTy).Contents (Elt F) → (⟨S16384, .f32⟩ : BufTy).Contents (Elt F)),
    unary main_v10 main_v11 (broadcastInDim S16384x1 ![0] bcast_S16384_S16384x1_0 : (⟨S16384, .f32⟩ : BufTy).Contents (Elt F) → (⟨S16384x1, .f32⟩ : BufTy).Contents (Elt F)),
    unary main_v11 main_v12 (broadcastInDim S16384x300 ![0, 1] bcast_S16384x1_S16384x300_0_1 : (⟨S16384x1, .f32⟩ : BufTy).Contents (Elt F) → (⟨S16384x300, .f32⟩ : BufTy).Contents (Elt F)),
    binary main_arg1 main_v12 main_v13 (subf : (⟨S16384x300, .f32⟩ : BufTy).Contents (Elt F) → (⟨S16384x300, .f32⟩ : BufTy).Contents (Elt F) → (⟨S16384x300, .f32⟩ : BufTy).Contents (Elt F)),
    unary main_v13 main_v14 (Host.exp : (⟨S16384x300, .f32⟩ : BufTy).Contents (Elt F) → (⟨S16384x300, .f32⟩ : BufTy).Contents (Elt F)),
    nullary main_cst_2 (constant S_ .f32 0x00000000#32),
    binary main_v14 main_cst_2 main_v15 ((fun x v => Host.reduceAdd x v reducesTo_S16384x300_S16384_d1 h_S_) : (⟨S16384x300, .f32⟩ : BufTy).Contents (Elt F) → (⟨S_, .f32⟩ : BufTy).Contents (Elt F) → (⟨S16384, .f32⟩ : BufTy).Contents (Elt F)),
    unary main_v15 main_v16 (broadcastInDim S16384x1 ![0] bcast_S16384_S16384x1_0 : (⟨S16384, .f32⟩ : BufTy).Contents (Elt F) → (⟨S16384x1, .f32⟩ : BufTy).Contents (Elt F)),
    unary main_v16 main_v17 (broadcastInDim S16384x300 ![0, 1] bcast_S16384x1_S16384x300_0_1 : (⟨S16384x1, .f32⟩ : BufTy).Contents (Elt F) → (⟨S16384x300, .f32⟩ : BufTy).Contents (Elt F)),
    binary main_v14 main_v17 main_v18 (Host.divf : (⟨S16384x300, .f32⟩ : BufTy).Contents (Elt F) → (⟨S16384x300, .f32⟩ : BufTy).Contents (Elt F) → (⟨S16384x300, .f32⟩ : BufTy).Contents (Elt F)),
    unary main_v6 main_v19 (negi : (⟨S16384, .i32⟩ : BufTy).Contents (Elt F) → (⟨S16384, .i32⟩ : BufTy).Contents (Elt F)),
    nullary main_v20 (iotaInDim S300 32 0),
    unary main_v20 main_v21 (broadcastInDim S1x300 ![1] bcast_S300_S1x300_1 : (⟨S300, .i32⟩ : BufTy).Contents (Elt F) → (⟨S1x300, .i32⟩ : BufTy).Contents (Elt F)),
    unary main_v19 main_v22 (broadcastInDim S16384x1 ![0] bcast_S16384_S16384x1_0 : (⟨S16384, .i32⟩ : BufTy).Contents (Elt F) → (⟨S16384x1, .i32⟩ : BufTy).Contents (Elt F)),
    unary main_v21 main_v23 (broadcastInDim S16384x300 ![0, 1] bcast_S1x300_S16384x300_0_1 : (⟨S1x300, .i32⟩ : BufTy).Contents (Elt F) → (⟨S16384x300, .i32⟩ : BufTy).Contents (Elt F)),
    unary main_v22 main_v24 (broadcastInDim S16384x300 ![0, 1] bcast_S16384x1_S16384x300_0_1 : (⟨S16384x1, .i32⟩ : BufTy).Contents (Elt F) → (⟨S16384x300, .i32⟩ : BufTy).Contents (Elt F)),
    binary main_v23 main_v24 main_v25 (subi : (⟨S16384x300, .i32⟩ : BufTy).Contents (Elt F) → (⟨S16384x300, .i32⟩ : BufTy).Contents (Elt F) → (⟨S16384x300, .i32⟩ : BufTy).Contents (Elt F)),
    nullary main_c (constantI S_ 32 300#32),
    TRef.unary (TRef.of (T := ⟨S_, .i32⟩) main_c) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S16384x300, .i32⟩) main_call2_v3) (broadcastInDim S16384x300 ![] bcast_S_S16384x300),
    TRef.binary (TRef.of (T := ⟨S16384x300, .i32⟩) main_v25) (TRef.of (T := ⟨S16384x300, .i32⟩) main_call2_v3) (TRef.of (T := ⟨S16384x300, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S16384x300, .i32⟩) main_call2_v5) (broadcastInDim S16384x300 ![] bcast_S_S16384x300),
    TRef.binary (TRef.of (T := ⟨S16384x300, .i32⟩) main_call2_v4) (TRef.of (T := ⟨S16384x300, .i32⟩) main_call2_v5) (TRef.of (T := ⟨S16384x300, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S16384x300, .i32⟩) main_call2_v7) (broadcastInDim S16384x300 ![] bcast_S_S16384x300),
    TRef.binary (TRef.of (T := ⟨S16384x300, .i32⟩) main_call2_v4) (TRef.of (T := ⟨S16384x300, .i32⟩) main_call2_v7) (TRef.of (T := ⟨S16384x300, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S16384x300, .i1⟩) main_call2_v10) (broadcastInDim S16384x300 ![] bcast_S_S16384x300),
    TRef.binary (TRef.of (T := ⟨S16384x300, .i1⟩) main_call2_v8) (TRef.of (T := ⟨S16384x300, .i1⟩) main_call2_v10) (TRef.of (T := ⟨S16384x300, .i1⟩) main_call2_v11) (cmpi .ne),
    TRef.binary (TRef.of (T := ⟨S16384x300, .i1⟩) main_call2_v11) (TRef.of (T := ⟨S16384x300, .i1⟩) main_call2_v6) (TRef.of (T := ⟨S16384x300, .i1⟩) main_call2_v12) andi,
    TRef.unary (TRef.of (T := ⟨S_, .i32⟩) main_call2_v2) (TRef.of (T := ⟨S16384x300, .i32⟩) main_call2_v13) (broadcastInDim S16384x300 ![] bcast_S_S16384x300),
    TRef.binary (TRef.of (T := ⟨S16384x300, .i32⟩) main_call2_v4) (TRef.of (T := ⟨S16384x300, .i32⟩) main_call2_v13) (TRef.of (T := ⟨S16384x300, .i32⟩) main_call2_v14) addi,
    TRef.ternary (TRef.of (T := ⟨S16384x300, .i1⟩) main_call2_v12) (TRef.of (T := ⟨S16384x300, .i32⟩) main_call2_v14) (TRef.of (T := ⟨S16384x300, .i32⟩) main_call2_v4) (TRef.of (T := ⟨S16384x300, .i32⟩) main_v26) select,
    nullary main_c_3 (constantI S_ 32 0#32),
    unary main_c_3 main_v27 (broadcastInDim S16384x300 ![] bcast_S_S16384x300 : (⟨S_, .i32⟩ : BufTy).Contents (Elt F) → (⟨S16384x300, .i32⟩ : BufTy).Contents (Elt F)),
    binary main_v26 main_v27 main_v28 (cmpi .slt : (⟨S16384x300, .i32⟩ : BufTy).Contents (Elt F) → (⟨S16384x300, .i32⟩ : BufTy).Contents (Elt F) → (⟨S16384x300, .i1⟩ : BufTy).Contents (Elt F)),
    nullary main_c_4 (constantI S_ 32 300#32),
    unary main_c_4 main_v29 (broadcastInDim S16384x300 ![] bcast_S_S16384x300 : (⟨S_, .i32⟩ : BufTy).Contents (Elt F) → (⟨S16384x300, .i32⟩ : BufTy).Contents (Elt F)),
    binary main_v26 main_v29 main_v30 (addi : (⟨S16384x300, .i32⟩ : BufTy).Contents (Elt F) → (⟨S16384x300, .i32⟩ : BufTy).Contents (Elt F) → (⟨S16384x300, .i32⟩ : BufTy).Contents (Elt F)),
    ternary main_v28 main_v30 main_v26 main_v31 (select : (⟨S16384x300, .i1⟩ : BufTy).Contents (Elt F) → (⟨S16384x300, .i32⟩ : BufTy).Contents (Elt F) → (⟨S16384x300, .i32⟩ : BufTy).Contents (Elt F) → (⟨S16384x300, .i32⟩ : BufTy).Contents (Elt F)),
    unary main_v31 main_v32 (broadcastInDim S16384x300x1 ![0, 1] bcast_S16384x300_S16384x300x1_0_1 : (⟨S16384x300, .i32⟩ : BufTy).Contents (Elt F) → (⟨S16384x300x1, .i32⟩ : BufTy).Contents (Elt F)),
    binary main_v18 main_v32 main_v33 ((fun x i => Host.gather gather_S16384x300_S16384x300x1_S16384x300_n_1_0_0_1_2_11 x i) : (⟨S16384x300, .f32⟩ : BufTy).Contents (Elt F) → (⟨S16384x300x1, .i32⟩ : BufTy).Contents (Elt F) → (⟨S16384x300, .f32⟩ : BufTy).Contents (Elt F)),
    nullary main_c_5 (constantI S_ 32 0#32),
    unary main_c_5 main_v34 (broadcastInDim S16384 ![] bcast_S_S16384 : (⟨S_, .i32⟩ : BufTy).Contents (Elt F) → (⟨S16384, .i32⟩ : BufTy).Contents (Elt F)),
    binary main_v19 main_v34 main_v35 (cmpi .sgt : (⟨S16384, .i32⟩ : BufTy).Contents (Elt F) → (⟨S16384, .i32⟩ : BufTy).Contents (Elt F) → (⟨S16384, .i1⟩ : BufTy).Contents (Elt F)),
    unary main_v20 main_v36 (broadcastInDim S1x300 ![1] bcast_S300_S1x300_1 : (⟨S300, .i32⟩ : BufTy).Contents (Elt F) → (⟨S1x300, .i32⟩ : BufTy).Contents (Elt F)),
    unary main_v19 main_v37 (broadcastInDim S16384x1 ![0] bcast_S16384_S16384x1_0 : (⟨S16384, .i32⟩ : BufTy).Contents (Elt F) → (⟨S16384x1, .i32⟩ : BufTy).Contents (Elt F)),
    unary main_v36 main_v38 (broadcastInDim S16384x300 ![0, 1] bcast_S1x300_S16384x300_0_1 : (⟨S1x300, .i32⟩ : BufTy).Contents (Elt F) → (⟨S16384x300, .i32⟩ : BufTy).Contents (Elt F)),
    unary main_v37 main_v39 (broadcastInDim S16384x300 ![0, 1] bcast_S16384x1_S16384x300_0_1 : (⟨S16384x1, .i32⟩ : BufTy).Contents (Elt F) → (⟨S16384x300, .i32⟩ : BufTy).Contents (Elt F)),
    binary main_v38 main_v39 main_v40 (cmpi .sge : (⟨S16384x300, .i32⟩ : BufTy).Contents (Elt F) → (⟨S16384x300, .i32⟩ : BufTy).Contents (Elt F) → (⟨S16384x300, .i1⟩ : BufTy).Contents (Elt F)),
    nullary main_c_6 (constantI S_ 32 0#32),
    unary main_c_6 main_v41 (broadcastInDim S16384 ![] bcast_S_S16384 : (⟨S_, .i32⟩ : BufTy).Contents (Elt F) → (⟨S16384, .i32⟩ : BufTy).Contents (Elt F)),
    binary main_v19 main_v41 main_v42 (cmpi .slt : (⟨S16384, .i32⟩ : BufTy).Contents (Elt F) → (⟨S16384, .i32⟩ : BufTy).Contents (Elt F) → (⟨S16384, .i1⟩ : BufTy).Contents (Elt F)),
    nullary main_c_7 (constantI S_ 32 300#32),
    unary main_c_7 main_v43 (broadcastInDim S16384 ![] bcast_S_S16384 : (⟨S_, .i32⟩ : BufTy).Contents (Elt F) → (⟨S16384, .i32⟩ : BufTy).Contents (Elt F)),
    binary main_v43 main_v19 main_v44 (addi : (⟨S16384, .i32⟩ : BufTy).Contents (Elt F) → (⟨S16384, .i32⟩ : BufTy).Contents (Elt F) → (⟨S16384, .i32⟩ : BufTy).Contents (Elt F)),
    unary main_v20 main_v45 (broadcastInDim S1x300 ![1] bcast_S300_S1x300_1 : (⟨S300, .i32⟩ : BufTy).Contents (Elt F) → (⟨S1x300, .i32⟩ : BufTy).Contents (Elt F)),
    unary main_v44 main_v46 (broadcastInDim S16384x1 ![0] bcast_S16384_S16384x1_0 : (⟨S16384, .i32⟩ : BufTy).Contents (Elt F) → (⟨S16384x1, .i32⟩ : BufTy).Contents (Elt F)),
    unary main_v45 main_v47 (broadcastInDim S16384x300 ![0, 1] bcast_S1x300_S16384x300_0_1 : (⟨S1x300, .i32⟩ : BufTy).Contents (Elt F) → (⟨S16384x300, .i32⟩ : BufTy).Contents (Elt F)),
    unary main_v46 main_v48 (broadcastInDim S16384x300 ![0, 1] bcast_S16384x1_S16384x300_0_1 : (⟨S16384x1, .i32⟩ : BufTy).Contents (Elt F) → (⟨S16384x300, .i32⟩ : BufTy).Contents (Elt F)),
    binary main_v47 main_v48 main_v49 (cmpi .slt : (⟨S16384x300, .i32⟩ : BufTy).Contents (Elt F) → (⟨S16384x300, .i32⟩ : BufTy).Contents (Elt F) → (⟨S16384x300, .i1⟩ : BufTy).Contents (Elt F)) ]

/-- The second part of @main. -/
abbrev ops1 : List (HloOp τ sig (Elt F)) :=
  [ nullary main_c_8 (constantI S_ 1 1#1),
    unary main_c_8 main_v50 (broadcastInDim S300 ![] bcast_S_S300 : (⟨S_, .i1⟩ : BufTy).Contents (Elt F) → (⟨S300, .i1⟩ : BufTy).Contents (Elt F)),
    TRef.unary (TRef.of (T := ⟨S300, .i1⟩) main_v50) (TRef.of (T := ⟨S16384x300, .i1⟩) main_call3_v0) (broadcastInDim S16384x300 ![1] bcast_S300_S16384x300_1),
    TRef.unary (TRef.of (T := ⟨S16384, .i1⟩) main_v42) (TRef.of (T := ⟨S16384x300, .i1⟩) main_call3_v1) (broadcastInDim S16384x300 ![0] bcast_S16384_S16384x300_0),
    TRef.ternary (TRef.of (T := ⟨S16384x300, .i1⟩) main_call3_v1) (TRef.of (T := ⟨S16384x300, .i1⟩) main_v49) (TRef.of (T := ⟨S16384x300, .i1⟩) main_call3_v0) (TRef.of (T := ⟨S16384x300, .i1⟩) main_v51) select,
    TRef.unary (TRef.of (T := ⟨S16384, .i1⟩) main_v35) (TRef.of (T := ⟨S16384x300, .i1⟩) main_call4_v0) (broadcastInDim S16384x300 ![0] bcast_S16384_S16384x300_0),
    TRef.ternary (TRef.of (T := ⟨S16384x300, .i1⟩) main_call4_v0) (TRef.of (T := ⟨S16384x300, .i1⟩) main_v40) (TRef.of (T := ⟨S16384x300, .i1⟩) main_v51) (TRef.of (T := ⟨S16384x300, .i1⟩) main_v52) select,
    unary main_v52 main_v53 (uitofp .f32 : (⟨S16384x300, .i1⟩ : BufTy).Contents (Elt F) → (⟨S16384x300, .f32⟩ : BufTy).Contents (Elt F)),
    binary main_v33 main_v53 main_v54 (mulf : (⟨S16384x300, .f32⟩ : BufTy).Contents (Elt F) → (⟨S16384x300, .f32⟩ : BufTy).Contents (Elt F) → (⟨S16384x300, .f32⟩ : BufTy).Contents (Elt F)),
    binary main_v54 main_v7 main_v55 (mulf : (⟨S16384x300, .f32⟩ : BufTy).Contents (Elt F) → (⟨S16384x300, .f32⟩ : BufTy).Contents (Elt F) → (⟨S16384x300, .f32⟩ : BufTy).Contents (Elt F)),
    nullary main_cst_9 (constant S_ .f32 0x00000000#32),
    binary main_v55 main_cst_9 main_v56 ((fun x v => Host.reduceAdd x v reducesTo_S16384x300_S16384_d1 h_S_) : (⟨S16384x300, .f32⟩ : BufTy).Contents (Elt F) → (⟨S_, .f32⟩ : BufTy).Contents (Elt F) → (⟨S16384, .f32⟩ : BufTy).Contents (Elt F)),
    nullary main_cst_10 (constant S_ .f32 0x00000000#32),
    binary main_v56 main_cst_10 main_v57 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_11 (constant S_ .f32 0x46800000#32),
    binary main_v57 main_cst_11 main_v58 (Host.divf : (⟨S_, .f32⟩ : BufTy).Contents (Elt F) → (⟨S_, .f32⟩ : BufTy).Contents (Elt F) → (⟨S_, .f32⟩ : BufTy).Contents (Elt F)),
    unary main_v58 main_v59 (Host.negf : (⟨S_, .f32⟩ : BufTy).Contents (Elt F) → (⟨S_, .f32⟩ : BufTy).Contents (Elt F)) ]

theorem part0_eq (c : Dev nD) : main_part0 (F := F) c = seq ops0 := by
  unfold main_part0
  refine step_seq ?_
  refine step_seq ?_
  refine step_seq ?_
  refine step_seq ?_
  refine step_seq ?_
  refine call_seq (fn_round_eq ..) ?_ rfl
  refine step_seq ?_
  refine step_seq ?_
  refine call_seq (fn_log_softmax_eq ..) ?_ rfl
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine call_seq (fn_remainder_eq ..) ?_ rfl
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  refine step_seq ?_
  exact last_seq

theorem part1_eq (c : Dev nD) : main_part1 (F := F) c = seq ops1 := by
  unfold main_part1
  refine step_seq ?_
  refine step_seq ?_
  refine call_seq (fn_where_0_eq ..) ?_ rfl
  refine call_seq (fn_where_1_eq ..) ?_ rfl
  refine step_seq ?_
  refine step_seq ?_
  refine step_seq ?_
  refine step_seq ?_
  refine step_seq ?_
  refine step_seq ?_
  refine step_seq ?_
  refine step_seq ?_
  refine step_seq ?_
  refine step_seq ?_
  exact nil_seq

/-- @main is its two parts in order. -/
theorem main_eq (c : Dev nD) : main (F := F) c = seq (ops0 ++ ops1) :=
  call_seq (part0_eq c) (part1_eq c) rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation works on the TensorCore's own buffers. -/
theorem ops_sub : (ops0 ++ ops1 : List (HloOp τ sig (Elt F))).Forall fun op => op.bufs ⊆ tcRefs τ sig :=
  ⟨binary_bufs_sub .., unary_bufs_sub .., nullary_bufs_sub .., unary_bufs_sub .., binary_bufs_sub .., unary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., unary_bufs_sub .., unary_bufs_sub .., ternary_bufs_sub .., unary_bufs_sub .., ternary_bufs_sub .., unary_bufs_sub .., binary_bufs_sub .., binary_bufs_sub .., nullary_bufs_sub .., binary_bufs_sub .., nullary_bufs_sub .., binary_bufs_sub .., nullary_bufs_sub .., binary_bufs_sub .., unary_bufs_sub ..⟩

set_option maxRecDepth 8192 in
set_option maxHeartbeats 44400000 in
/-- From any memory with zero counters every weakly fair execution of @main ends, the result at `REF` of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v59) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c main_v59).trans (by simp only [ops0, ops1, List.cons_append, List.nil_append, TRef.binary, TRef.nullary, TRef.ternary, TRef.unary, TRef.toBuf, TRef.ofBuf, cast_eq]; after_results_simp <;> rfl),
      (h c main_arg0).trans (by simp only [ops0, ops1, List.cons_append, List.nil_append, TRef.binary, TRef.nullary, TRef.ternary, TRef.unary, TRef.toBuf, TRef.ofBuf, cast_eq]; after_results_simp <;> rfl),
      (h c main_arg1).trans (by simp only [ops0, ops1, List.cons_append, List.nil_append, TRef.binary, TRef.nullary, TRef.ternary, TRef.unary, TRef.toBuf, TRef.ofBuf, cast_eq]; after_results_simp <;> rfl),
      (h c main_arg2).trans (by simp only [ops0, ops1, List.cons_append, List.nil_append, TRef.binary, TRef.nullary, TRef.ternary, TRef.unary, TRef.toBuf, TRef.ofBuf, cast_eq]; after_results_simp <;> rfl),
      (h c main_arg3).trans (by simp only [ops0, ops1, List.cons_append, List.nil_append, TRef.binary, TRef.nullary, TRef.ternary, TRef.unary, TRef.toBuf, TRef.ofBuf, cast_eq]; after_results_simp <;> rfl)⟩, sem_eq_zero_of_no_sems (by decide) r.2⟩)
    (run_seq scopedRefs_eq scopedSems_eq defs main (fun _ => ops0 ++ ops1) main_eq (fun _ => ops_sub) m ρ)

end Cert.ReferenceIdeal.Run

end
-- ==== Proof.Softmax.lean ====
/- The kernel's two softmax payloads and its shifts, at the reals with infinities, against the reference's. -/
module

public import proofs.«01_k».proof.Proof.RefRun
public import Idealize.ShloMosaic.Lib.Pointwise

@[expose] public section

set_option maxRecDepth 16384

noncomputable section

namespace Cert.Value

open Idealize.ShloMosaic

/-- The pattern of minus infinity is the least extended real. -/
theorem bits_bot : Ideal.ofBits .f32 0xFF800000#32 = ⊥ := by
  simp [Ideal.ofBits, Ideal.ieee]

/-- The greatest entry of a row. -/
def top {n : ℕ} (r : Fin n → EReal) : EReal := Finset.univ.fold max ⊥ r
/-- The sum of the exponentials of a row less its greatest entry. -/
def expo {n : ℕ} (r : Fin n → EReal) : EReal := ∑ k, Ideal.exp (r k - top r)

/-- A row's maximum as the host takes it. -/
theorem host_max {n0 n1 : ℕ} {u t : Shape} (h : (⟨2, ![n0, n1]⟩ : Shape).ReducesTo [1] t) (hu : 0 < u.numel)
    (x : FVec Ideal ⟨2, ![n0, n1]⟩ .f32) (init : FVec Ideal u .f32) (j : t.Idx) :
    Host.reduce FloatOps.maximumf x init h hu j = (Finset.univ : Finset (Fin n1)).fold max (init (Shape.Idx.first hu))
      (fun k => x (ix2 ⟨(j ⟨0, h.lt_r2_a1_0⟩).val, Shape.coordLt (j ⟨0, h.lt_r2_a1_0⟩) h.size_r2_a1_0⟩ k)) := by
  pointwise

/-- A row's sum as the host takes it. -/
theorem host_sum {n0 n1 : ℕ} {u t : Shape} (h : (⟨2, ![n0, n1]⟩ : Shape).ReducesTo [1] t) (hu : 0 < u.numel)
    (x : FVec Ideal ⟨2, ![n0, n1]⟩ .f32) (init : FVec Ideal u .f32) (j : t.Idx) :
    Host.reduceAdd x init h hu j = init (Shape.Idx.first hu) + ∑ k : Fin n1,
      x (ix2 ⟨(j ⟨0, h.lt_r2_a1_0⟩).val, Shape.coordLt (j ⟨0, h.lt_r2_a1_0⟩) h.size_r2_a1_0⟩ k) := by
  pointwise

/-! ## The reference's rows -/

section Reference

open Cert.ReferenceIdeal Cert.ReferenceIdeal.Run

/-- A row's maximum, at the reference's shapes. -/
theorem max_apply (A : FVec Ideal S16384x300 .f32) (b : Fin 16384) :
    Host.reduce FloatOps.maximumf A (constant (F := Ideal) S_ .f32 0xFF800000#32) Gen.reducesTo_S16384x300_S16384_d1 Gen.h_S_ (ix1 b)
      = top (fun k => A (ix2 b k)) := by
  rw [host_max]
  unfold top
  rw [← bits_bot]
  rfl

/-- A row's sum, at the reference's shapes. -/
theorem sum_apply (A : FVec Ideal S16384x300 .f32) (b : Fin 16384) :
    Host.reduceAdd A (constant (F := Ideal) S_ .f32 0x00000000#32) Gen.reducesTo_S16384x300_S16384_d1 Gen.h_S_ (ix1 b)
      = ∑ k : Fin 300, A (ix2 b k) := by
  rw [host_sum]
  refine (congrArg (· + _) (show _ = (0 : EReal) from Ideal.ofBits_zero_f32)).trans ((zero_add _).trans rfl)

/-- An array less what a vector holds for its row, no less than minus infinity, at an element. -/
theorem less_apply (A : FVec Ideal S16384x300 .f32) (M : FVec Ideal S16384 .f32) (b : Fin 16384) (k : Fin 300) :
    subf A (broadcastInDim S16384x300 ![0, 1] Gen.bcast_S16384x1_S16384x300_0_1 (broadcastInDim S16384x1 ![0] Gen.bcast_S16384_S16384x1_0
      (maximumf (broadcastInDim S16384 ![] Gen.bcast_S_S16384 (constant S_ .f32 0xFF800000#32)) M))) (ix2 b k)
      = A (ix2 b k) - M (ix1 b) := by
  pointwise
  rw [bits_bot, max_eq_right bot_le]

/-- A centred entry. -/
theorem centred_apply (A : FVec Ideal S16384x300 .f32) (b : Fin 16384) (k : Fin 300) :
    centred A (ix2 b k) = A (ix2 b k) - top (fun k => A (ix2 b k)) :=
  (less_apply A _ b k).trans (congrArg (A (ix2 b k) - ·) (max_apply A b))

/-- A row's sum of exponentials. -/
theorem expSum_apply (A : FVec Ideal S16384x300 .f32) (b : Fin 16384) :
    expSum A (ix1 b) = expo (fun k => A (ix2 b k)) := by
  unfold expSum expo
  rw [sum_apply]
  refine Finset.sum_congr rfl fun k _ => ?_
  exact congrArg Ideal.exp (centred_apply A b k)

/-- An entry of the reference's log-softmax. -/
theorem logSoftmax_apply (A : FVec Ideal S16384x300 .f32) (b : Fin 16384) (k : Fin 300) :
    logSoftmax A (ix2 b k) = (A (ix2 b k) - top (fun k => A (ix2 b k))) - Ideal.log (expo (fun k => A (ix2 b k))) := by
  have h := centred_apply A b k
  have h' := expSum_apply A b
  unfold logSoftmax
  generalize centred A = C at h
  generalize expSum A = E at h'
  pointwise
  rw [h, h']

/-- An entry of the reference's softmax. -/
theorem softmax_apply (A : FVec Ideal S16384x300 .f32) (b : Fin 16384) (k : Fin 300) :
    softmax A (ix2 b k) = Ideal.div (Ideal.exp (A (ix2 b k) - top (fun k => A (ix2 b k)))) (expo (fun k => A (ix2 b k))) := by
  have h := centred_apply A b k
  have h' := expSum_apply A b
  unfold softmax
  generalize centred A = C at h
  generalize expSum A = E at h'
  pointwise
  rw [h, h']

/-- A row's shift. -/
theorem shift_apply (ri rj : FVec Ideal S16384x1 .f32) (b : Fin 16384) :
    shift ri rj (ix1 b) = -FloatOps.fptosi (F := Ideal) (φ := .f32) 32 (Ideal.liftRound Ideal.roundHalfEven
      (Ideal.div (Ideal.log (Ideal.div (rj (ix2 b 0)) (ri (ix2 b 0)))) (Ideal.ofBits .f32 0x3C13E549#32))) := by
  unfold shift
  pointwise

end Reference

end Cert.Value
-- ==== Proof.SoftmaxK.lean ====
/- The kernel's softmax payloads and its shifts, read at an element. -/
module

public import proofs.«01_k».proof.Proof.RegionIdeal
public import proofs.«01_k».proof.Proof.Softmax

@[expose] public section

set_option maxRecDepth 16384

noncomputable section

namespace Cert.Value

open Idealize.ShloMosaic Cert.KernelIdeal Cert.KernelIdeal.Run

/-- A block's row is the array's. -/
theorem rows300_apply (A : Vec Ideal S16384x300 .f32) (b : Fin 16384) (h : b.val / 256 < 64) (r : Fin 256) (hr : r.val = b.val % 256) (k : Fin 300) :
    rows300 A (b.val / 256) h (ix2 r k) = A (ix2 b k) := by
  unfold rows300
  congr 1
  funext a
  apply Fin.ext
  match a with
  | ⟨0, _⟩ =>
    show b.val / 256 * 256 + r.val = b.val
    rw [hr]; omega
  | ⟨1, _⟩ => rfl

/-- A block's entry is the array's. -/
theorem rows1_apply (A : Vec Ideal S16384x1 .f32) (b : Fin 16384) (h : b.val / 256 < 64) (r : Fin 256) (hr : r.val = b.val % 256) :
    rows1 A (b.val / 256) h (ix2 r 0) = A (ix2 b 0) := by
  unfold rows1
  congr 1
  funext a
  apply Fin.ext
  match a with
  | ⟨0, _⟩ =>
    show b.val / 256 * 256 + r.val = b.val
    rw [hr]; omega
  | ⟨1, _⟩ => rfl

/-- The region's first payload at an element. -/
theorem pay1_apply (v : Vec Ideal S256x300 .f32) (r : Fin 256) (k : Fin 300) :
    Gen.k0_pay1 v (ix2 r k) = v (ix2 r k) - (top (fun k => v (ix2 r k)) + Ideal.log (expo (fun k => v (ix2 r k)))) := by
  unfold top expo
  pointwise [Gen.k0_pay1]
  rw [bits_bot]
  rfl

/-- The region's second payload at an element. -/
theorem pay2_apply (v : Vec Ideal S256x300 .f32) (r : Fin 256) (k : Fin 300) :
    Gen.k0_pay2 v (ix2 r k) = Ideal.div (Ideal.exp (v (ix2 r k) - top (fun k => v (ix2 r k)))) (expo (fun k => v (ix2 r k))) := by
  unfold top expo
  pointwise [Gen.k0_pay2]
  rw [bits_bot]
  rfl

/-- The region's third payload at an element. -/
theorem pay3_apply (v w : Vec Ideal S256x1 .f32) (r : Fin 256) :
    Gen.k0_pay3 v w (ix2 r 0) = -FloatOps.fptosi (F := Ideal) (φ := .f32) 32 (Ideal.liftRound Ideal.roundHalfEven
      (Ideal.div (Ideal.log (Ideal.div (v (ix2 r 0)) (w (ix2 r 0)))) (Ideal.ofBits .f32 0x3C13E549#32))) := by
  pointwise [Gen.k0_pay3]
  exact BitVec.zero_sub _

/-- Where an element lies in its block. -/
theorem in300_ix2 (b : Fin 16384) (k : Fin 300) : in300 (ix2 b k) = ix2 ⟨b.val % 256, Nat.mod_lt _ (by decide)⟩ k := by
  funext a
  match a with
  | ⟨0, _⟩ => rfl
  | ⟨1, _⟩ => rfl

/-- Where an element lies in its block. -/
theorem in1_ix2 (b : Fin 16384) : in1 (ix2 b 0) = ix2 ⟨b.val % 256, Nat.mod_lt _ (by decide)⟩ 0 := by
  funext a
  match a with
  | ⟨0, _⟩ => rfl
  | ⟨1, _⟩ => rfl

/-- The region's log-probabilities at an element. -/
theorem lpFn_apply (A : Vec Ideal S16384x300 .f32) (b : Fin 16384) (k : Fin 300) :
    lpFn A (ix2 b k) = A (ix2 b k) - (top (fun k => A (ix2 b k)) + Ideal.log (expo (fun k => A (ix2 b k)))) := by
  have hb : b.val / 256 < 64 := by omega
  show Gen.k0_pay1 (rows300 A (b.val / 256) hb) (in300 (ix2 b k)) = _
  rw [in300_ix2, pay1_apply]
  simp only [rows300_apply A b hb ⟨b.val % 256, Nat.mod_lt _ (by decide)⟩ rfl]

/-- The region's probabilities at an element. -/
theorem pFn_apply (A : Vec Ideal S16384x300 .f32) (b : Fin 16384) (k : Fin 300) :
    pFn A (ix2 b k) = Ideal.div (Ideal.exp (A (ix2 b k) - top (fun k => A (ix2 b k)))) (expo (fun k => A (ix2 b k))) := by
  have hb : b.val / 256 < 64 := by omega
  show Gen.k0_pay2 (rows300 A (b.val / 256) hb) (in300 (ix2 b k)) = _
  rw [in300_ix2, pay2_apply]
  simp only [rows300_apply A b hb ⟨b.val % 256, Nat.mod_lt _ (by decide)⟩ rfl]

/-- The region's shifts at an element. -/
theorem sFn_apply (A B : Vec Ideal S16384x1 .f32) (b : Fin 16384) :
    sFn A B (ix2 b 0) = -FloatOps.fptosi (F := Ideal) (φ := .f32) 32 (Ideal.liftRound Ideal.roundHalfEven
      (Ideal.div (Ideal.log (Ideal.div (B (ix2 b 0)) (A (ix2 b 0)))) (Ideal.ofBits .f32 0x3C13E549#32))) := by
  have hb : b.val / 256 < 64 := by omega
  show Gen.k0_pay3 (rows1 B (b.val / 256) hb) (rows1 A (b.val / 256) hb) (in1 (ix2 b 0)) = _
  rw [in1_ix2, pay3_apply]
  simp only [rows1_apply _ b hb ⟨b.val % 256, Nat.mod_lt _ (by decide)⟩ rfl]

end Cert.Value
-- ==== Proof.Below.lean ====
/- The precondition, that every entry of z_i is below plus infinity, read at an entry; and what it is for: that the two ways
   of writing a log-softmax agree. -/
module

public import proofs.«01_k».proof.Pre_z_i_below_infinity
public import proofs.«01_k».proof.Proof.SoftmaxK
public import Idealize.ShloMosaic.Lib.ReduceAll

@[expose] public section

set_option maxRecDepth 16384

noncomputable section

namespace Cert.Value

open Idealize.ShloMosaic

/-- The shape facts that the precondition's own operations take. -/
theorem preFacts : Cert.Pre_z_i_below_infinity.Facts where
  bcast_S_S16384x300 := by decide
  reducesTo_S16384x300_S_d0_1 := by decide
  h_S_ := by decide

/-- The pattern of plus infinity is the greatest extended real. -/
theorem bits_top : Ideal.ofBits .f32 0x7F800000#32 = ⊤ := by
  simp [Ideal.ofBits, Ideal.ieee]

/-- The comparison against plus infinity, at an element. -/
theorem below_apply (h : Pre_z_i_below_infinity.S_.BroadcastsInDim Pre_z_i_below_infinity.S16384x300 ![])
    (A : FVec Ideal Pre_z_i_below_infinity.S16384x300 .f32) (b : Fin 16384) (k : Fin 300)
    (e : cmpf .olt A (broadcastInDim Pre_z_i_below_infinity.S16384x300 ![] h (constant Pre_z_i_below_infinity.S_ .f32 0x7F800000#32)) (ix2 b k) = 1#1) :
    A (ix2 b k) < ⊤ := by
  revert e
  pointwise
  rw [bits_top]
  intro e
  by_contra hn
  simp [hn] at e

/-- Under the precondition every entry of z_i is below plus infinity. -/
theorem below [Cert.Pre_z_i_below_infinity.Facts] (A B : FVec Ideal Pre_z_i_below_infinity.S16384x300 .f32) (C D : FVec Ideal Pre_z_i_below_infinity.S16384x1 .f32)
    (h : Pre_z_i_below_infinity.fn A B C D = fun _ => 1#1) (b : Fin 16384) (k : Fin 300) : A (ix2 b k) < ⊤ := by
  have e := congrFun h (fun a => a.elim0)
  haveI : Subsingleton Pre_z_i_below_infinity.S_.Idx := ⟨fun a b => funext fun i => i.elim0⟩
  exact below_apply _ A b k (Host.reduce_andi_all _ _ _ _ _ e (ix2 b k))

/-- A row below plus infinity has its greatest entry below it. -/
theorem top_lt {n : ℕ} (r : Fin n → EReal) (h : ∀ k, r k < ⊤) : top r < ⊤ :=
  (Finset.fold_max_lt _).2 ⟨bot_lt_top, fun k _ => h k⟩

/-- No entry is above the greatest. -/
theorem le_top_row {n : ℕ} (r : Fin n → EReal) (k : Fin n) : r k ≤ top r :=
  (Finset.le_fold_max _).2 (.inr ⟨k, Finset.mem_univ k, le_rfl⟩)

/-- Subtracting two numbers in turn is subtracting their sum, where the first is finite or the whole is minus infinity. -/
theorem sub_turn (x t l : EReal) (hx : x ≤ t) (ht : t < ⊤) : x - t - l = x - (t + l) := by
  rcases eq_or_ne x ⊥ with rfl | hb
  · simp [sub_eq_add_neg, EReal.bot_add]
  · have hx' : x ≠ ⊤ := (lt_of_le_of_lt hx ht).ne
    have ht' : t ≠ ⊥ := fun e => hb (le_bot_iff.1 (e ▸ hx))
    lift x to ℝ using ⟨hx', hb⟩
    lift t to ℝ using ⟨ht.ne, ht'⟩
    rw [sub_eq_add_neg, sub_eq_add_neg, sub_eq_add_neg, EReal.neg_add (.inl (EReal.coe_ne_bot _)) (.inl (EReal.coe_ne_top _)), sub_eq_add_neg, add_assoc]

/-- The region's log-probabilities are the reference's log-softmax, of an array with no entry plus infinity. -/
theorem logSoftmax_eq (A : FVec Ideal KernelIdeal.S16384x300 .f32) (h : ∀ b k, A (ix2 b k) < ⊤) (b : Fin 16384) (k : Fin 300) :
    KernelIdeal.Run.lpFn (F := Ideal) A (ix2 b k) = ReferenceIdeal.Run.logSoftmax (F := Ideal) A (ix2 b k) := by
  rw [lpFn_apply A b k]
  refine Eq.trans ?_ (logSoftmax_apply A b k).symm
  exact (sub_turn _ _ _ (le_top_row (fun k => A (ix2 b k)) k) (top_lt _ fun k => h b k)).symm

/-- The region's probabilities are the reference's softmax. -/
theorem softmax_eq (A : FVec Ideal KernelIdeal.S16384x300 .f32) (b : Fin 16384) (k : Fin 300) :
    KernelIdeal.Run.pFn (F := Ideal) A (ix2 b k) = ReferenceIdeal.Run.softmax (F := Ideal) A (ix2 b k) :=
  (pFn_apply A b k).trans (softmax_apply A b k).symm

/-- The region's shifts are the reference's. -/
theorem shift_eq (A B : FVec Ideal KernelIdeal.S16384x1 .f32) (b : Fin 16384) :
    KernelIdeal.Run.sFn (F := Ideal) A B (ix2 b 0) = ReferenceIdeal.Run.shift (F := Ideal) A B (ix1 b) :=
  (sFn_apply A B b).trans (shift_apply A B b).symm

end Cert.Value
-- ==== Proof.Words.lean ====
/- The arithmetic of places: a word s is a row's shift, and a class m of one row meets the class s + m of the other where
   that is a class. The kernel tests the sum; the reference rolls the row and masks what came round. -/
module

public import Idealize.ShloMosaic.PureOps
public import Idealize.ShloMosaic.Lib.WordCmp
public import Idealize.ShloMosaic.Lib.Pointwise

@[expose] public section

namespace Cert.Value

open Idealize.ShloMosaic Idealize.ShloMosaic.WordCmp

/-- A class number as a word is itself, read signed. -/
theorem toInt_class (k : Fin 300) : (BitVec.ofNat 32 k.val).toInt = (k.val : ℤ) :=
  toInt_ofNat_of_lt (lt_of_lt_of_le k.isLt (by decide))

/-- The kernel's test that the shifted class is one. -/
def hits (s : BitVec 32) (m : Fin 300) : BitVec 1 :=
  IntOp.andi (IntOp.cmpi .sge (IntOp.addi s (BitVec.ofNat 32 m.val)) 0#32) (IntOp.cmpi .slt (IntOp.addi s (BitVec.ofNat 32 m.val)) 300#32)

/-- The shifted class brought between the first and the last. -/
def bring (s : BitVec 32) (m : Fin 300) : BitVec 32 :=
  IntOp.minsi (IntOp.maxsi (IntOp.addi s (BitVec.ofNat 32 m.val)) 0#32) 299#32

/-- The sum of a shift and a class, read signed, wraps round at most once. -/
theorem toInt_shifted (s : BitVec 32) (m : Fin 300) :
    (IntOp.addi s (BitVec.ofNat 32 m.val)).toInt = if s.toInt + m.val < 2147483648 then s.toInt + m.val else s.toInt + m.val - 4294967296 := by
  have h1 := BitVec.toInt_lt (x := s)
  have h2 := BitVec.le_toInt (x := s)
  have hm := m.isLt
  show (s + BitVec.ofNat 32 m.val).toInt = _
  rw [BitVec.toInt_add, toInt_class, Int.bmod_def]
  norm_num at h1 h2 ⊢
  split_ifs <;> omega

/-- The test succeeds exactly where the sum of the numbers is a class. -/
theorem hits_iff (s : BitVec 32) (m : Fin 300) : hits s m = 1#1 ↔ 0 ≤ s.toInt + m.val ∧ s.toInt + m.val < 300 := by
  have h1 := BitVec.toInt_lt (x := s)
  have h2 := BitVec.le_toInt (x := s)
  have hm := m.isLt
  unfold hits
  rw [cmpi_sge_eq, cmpi_slt_eq, andi_ofBool, ofBool_eq_one_iff, toInt_shifted]
  simp only [Bool.and_eq_true, decide_eq_true_eq, show (300#32 : BitVec 32).toInt = 300 from by decide, show (0#32 : BitVec 32).toInt = 0 from by decide]
  norm_num at h1 h2
  split_ifs <;> omega

/-- Where the sum is a class, bringing it in range leaves it. -/
theorem bring_eq (s : BitVec 32) (m : Fin 300) (h : 0 ≤ s.toInt + m.val ∧ s.toInt + m.val < 300) :
    (bring s m).toNat = (s.toInt + m.val).toNat := by
  have e : (IntOp.addi s (BitVec.ofNat 32 m.val)).toInt = s.toInt + m.val := by
    rw [toInt_shifted, if_pos (by omega)]
  have e' : IntOp.addi s (BitVec.ofNat 32 m.val) = BitVec.ofNat 32 (s.toInt + m.val).toNat := by
    apply BitVec.eq_of_toInt_eq
    rw [e, toInt_ofNat_of_lt (by omega), Int.toNat_of_nonneg h.1]
  unfold bring
  rw [e']
  have hn : (s.toInt + m.val).toNat < 300 := by omega
  generalize (s.toInt + m.val).toNat = n at hn
  have key : ∀ n : Fin 300, (IntOp.minsi (IntOp.maxsi (BitVec.ofNat 32 n.val) 0#32) 299#32).toNat = n.val := by decide +kernel
  exact key ⟨n, hn⟩

/-- The reference's remainder by 300 with its sign. -/
def wrap (x : BitVec 32) : BitVec 32 :=
  Scalar.select (IntOp.andi (IntOp.cmpi .ne (IntOp.cmpi .slt (IntOp.remsi .host x 300#32) 0#32) (IntOp.cmpi .slt (300#32 : BitVec 32) 0#32))
      (IntOp.cmpi .ne (IntOp.remsi .host x 300#32) 0#32))
    (IntOp.addi (IntOp.remsi .host x 300#32) 300#32) (IntOp.remsi .host x 300#32)

/-- The place that the reference reads: the remainder, and 300 more were it negative. -/
def from300 (x : BitVec 32) : BitVec 32 :=
  Scalar.select (IntOp.cmpi .slt (wrap x) 0#32) (IntOp.addi (wrap x) 300#32) (wrap x)

/-- A class is its own place. -/
theorem from300_class (n : ℕ) (h : n < 300) : from300 (BitVec.ofNat 32 n) = BitVec.ofNat 32 n := by
  have key : ∀ n : Fin 300, from300 (BitVec.ofNat 32 n.val) = BitVec.ofNat 32 n.val := by decide +kernel
  exact key ⟨n, h⟩

/-- The reference's mask. -/
def keeps (s : BitVec 32) (k : Fin 300) : BitVec 1 :=
  Scalar.select (IntOp.cmpi .sgt s 0#32) (IntOp.cmpi .sge (BitVec.ofNat 32 k.val) s)
    (Scalar.select (IntOp.cmpi .slt s 0#32) (IntOp.cmpi .slt (BitVec.ofNat 32 k.val) (IntOp.addi 300#32 s)) 1#1)

/-- The mask keeps exactly the places from which the shift leads back to a class. -/
theorem keeps_iff (s : BitVec 32) (k : Fin 300) : keeps s k = 1#1 ↔ 0 ≤ (k.val : ℤ) - s.toInt ∧ (k.val : ℤ) - s.toInt < 300 := by
  have h1 := BitVec.toInt_lt (x := s)
  have h2 := BitVec.le_toInt (x := s)
  have hk := k.isLt
  have e : s.toInt < 0 → (IntOp.addi 300#32 s).toInt = 300 + s.toInt := by
    intro hs
    show (300#32 + s).toInt = _
    rw [BitVec.toInt_add, Int.bmod_def]
    rw [show (300#32 : BitVec 32).toInt = 300 from by decide]
    norm_num at h1 h2 ⊢
    split_ifs <;> omega
  unfold keeps Scalar.select
  simp only [cmpi_sgt_eq, cmpi_sge_eq, cmpi_slt_eq, toInt_class, BitVec.toInt_ofNat, ofBool_eq_one_iff']
  norm_num at h1 h2 ⊢
  split_ifs with ha hb
  · rw [ofBool_eq_one_iff, decide_eq_true_eq]; omega
  · rw [ofBool_eq_one_iff, decide_eq_true_eq, e hb]; omega
  · simp; omega

/-- Where the shift leads back to a class, the reference reads that class. -/
theorem from300_back (s : BitVec 32) (k : Fin 300) (h : 0 ≤ (k.val : ℤ) - s.toInt ∧ (k.val : ℤ) - s.toInt < 300) :
    from300 (IntOp.subi (BitVec.ofNat 32 k.val) s) = BitVec.ofNat 32 ((k.val : ℤ) - s.toInt).toNat := by
  have e : IntOp.subi (BitVec.ofNat 32 k.val) s = BitVec.ofNat 32 ((k.val : ℤ) - s.toInt).toNat := by
    apply BitVec.eq_of_toInt_eq
    show (BitVec.ofNat 32 k.val - s).toInt = _
    rw [BitVec.toInt_sub, toInt_class, toInt_ofNat_of_lt (by omega), Int.toNat_of_nonneg h.1, Int.bmod_def]
    norm_num
    split_ifs <;> omega
  rw [e, from300_class _ (by omega)]

end Cert.Value
-- ==== Proof.Roll.lean ====
/- One row of the reference's rolled and masked product, at an element, and its sum over the classes against the kernel's. -/
module

public import proofs.«01_k».proof.Proof.RefRun
public import proofs.«01_k».proof.Proof.Words

@[expose] public section

set_option maxRecDepth 16384

noncomputable section

namespace Cert.Value

open Idealize.ShloMosaic

/-! ## The sums -/

/-- Of a sum over the classes with one chosen by a whole number, the chosen one if it is a class. -/
theorem sum_chosen (x : ℤ) (f : Fin 300 → EReal) :
    (∑ k : Fin 300, if (k.val : ℤ) = x then f k else 0) = if h : 0 ≤ x ∧ x < 300 then f ⟨x.toNat, by omega⟩ else 0 := by
  split_ifs with h
  · rw [Finset.sum_eq_single (⟨x.toNat, by omega⟩ : Fin 300)]
    · rw [if_pos (Int.toNat_of_nonneg h.1)]
    · intro k _ hk
      exact if_neg fun e => hk (Fin.ext (by show k.val = x.toNat; omega))
    · intro hn; exact absurd (Finset.mem_univ _) hn
  · exact Finset.sum_eq_zero fun k _ => if_neg (by have := k.isLt; omega)

/-- The kernel's sum along a row, over the classes of the one distribution. -/
def along (s : ℤ) (p lp : Fin 300 → EReal) : EReal :=
  ∑ m : Fin 300, if h : 0 ≤ s + m.val ∧ s + m.val < 300 then p m * lp ⟨(s + m.val).toNat, by omega⟩ else 0

/-- It is the reference's, over the classes of the other. -/
theorem along_eq (s : ℤ) (p lp : Fin 300 → EReal) :
    along s p lp = ∑ k : Fin 300, if h : 0 ≤ (k.val : ℤ) - s ∧ (k.val : ℤ) - s < 300 then p ⟨((k.val : ℤ) - s).toNat, by omega⟩ * lp k else 0 := by
  unfold along
  rw [Finset.sum_congr rfl fun m _ => (sum_chosen (s + m.val) (fun k => p m * lp k)).symm, Finset.sum_comm]
  refine Finset.sum_congr rfl fun k _ => ?_
  rw [← sum_chosen ((k.val : ℤ) - s) (fun m => p m * lp k)]
  refine Finset.sum_congr rfl fun m _ => ?_
  exact if_congr (by omega) rfl rfl

/-! ## The reference's operations at an element -/

section Reference

open Cert.ReferenceIdeal Cert.ReferenceIdeal.Run

/-- The divisor is 300. -/
theorem divisor_eq : divisor = fun _ => 300#32 := by
  funext i; rfl

/-- The rolled place at an element. -/
theorem rolled_apply (s : IVec S16384 32) (b : Fin 16384) (k : Fin 300) :
    rolled s (ix2 b k) = from300 (IntOp.subi (BitVec.ofNat 32 k.val) (s (ix1 b))) := by
  unfold rolled floorRem signedRem ReferenceIdeal.Run.along places
  rw [divisor_eq]
  unfold from300 wrap
  pointwise

/-- The mask at an element. -/
theorem kept_apply (s : IVec S16384 32) (b : Fin 16384) (k : Fin 300) : kept s (ix2 b k) = keeps (s (ix1 b)) k := by
  unfold kept places ReferenceIdeal.Run.along keeps
  pointwise

/-- The dimension numbers of the gather along a row. -/
abbrev gd := gather_S16384x300_S16384x300x1_S16384x300_n_1_0_0_1_2_11

/-- The gather along a row at an element: the row's entry at the place its word names, read signed and brought in range. -/
theorem gather_apply (p : FVec Ideal S16384x300 .f32) (w : IVec S16384x300x1 32) (b : Fin 16384) (k : Fin 300)
    (v : BitVec 32) (hv : w (ix3 b k 0) = v) :
    Host.gather gd p w (ix2 b k) = p (ix2 b ⟨min v.toInt.toNat 299, by omega⟩) := by
  subst hv
  show p (gd.operandIdx (ix2 b k) w) = _
  congr 1
  funext a
  apply Fin.ext
  show gd.start (ix2 b k) w a + gd.batchCoord (ix2 b k) a + gd.offCoord (ix2 b k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    have h0 : (0 : Fin 2) ∈ gd.operandBatchingDims := List.mem_singleton.mpr rfl
    unfold GatherDims.batchCoord
    exact (dif_pos h0).trans rfl
  | ⟨1, _⟩ =>
    rw [GatherDims.batchCoord_eq_zero _ _ _ (fun h => Nat.one_ne_zero (congrArg Fin.val (List.mem_singleton.1 h))),
      GatherDims.offCoord_eq_zero _ _ _ (fun h => ((GatherDims.mem_sKept _ _).mp h).1 (List.mem_singleton.mpr rfl)), Nat.add_zero]
    have h1 : (1 : Fin 2) ∈ gd.startIndexMap := List.mem_singleton.mpr rfl
    unfold GatherDims.start
    refine (dif_pos h1).trans ?_
    have e : gd.siIdx (ix2 b k) ⟨List.idxOf (1 : Fin 2) gd.startIndexMap, List.idxOf_lt_length_iff.2 (List.mem_singleton.mpr rfl)⟩ = ix3 b k 0 := by
      funext c; apply Fin.ext
      match c with
      | ⟨0, _⟩ => rfl
      | ⟨1, _⟩ => rfl
      | ⟨2, _⟩ => rfl
    exact congrArg (fun z => min (w z).toInt.toNat 299) e

/-- An entry of the rolled and masked product. -/
theorem terms_apply (lp p : FVec Ideal S16384x300 .f32) (s : IVec S16384 32) (b : Fin 16384) (k : Fin 300) :
    terms lp p s (ix2 b k) = if h : 0 ≤ (k.val : ℤ) - (s (ix1 b)).toInt ∧ (k.val : ℤ) - (s (ix1 b)).toInt < 300
      then p (ix2 b ⟨((k.val : ℤ) - (s (ix1 b)).toInt).toNat, by omega⟩) * lp (ix2 b k) else 0 := by
  have e : terms lp p s (ix2 b k) = p (ix2 b ⟨min (rolled s (ix2 b k)).toInt.toNat 299, by omega⟩) * FloatOps.uitofp (F := Ideal) .f32 (kept s (ix2 b k)) * lp (ix2 b k) := by
    have hr : broadcastInDim S16384x300x1 ![0, 1] Gen.bcast_S16384x300_S16384x300x1_0_1 (rolled s) (ix3 b k 0) = rolled s (ix2 b k) := by
      generalize rolled s = r
      pointwise
    unfold terms
    show Host.gather gd p _ (ix2 b k) * _ * _ = _
    rw [gather_apply p _ b k _ hr]
    rfl
  rw [e, kept_apply]
  split_ifs with h
  · rw [(keeps_iff _ _).2 h]
    have e1 : (FloatOps.uitofp (F := Ideal) .f32 (1#1 : BitVec 1)) = (1 : EReal) := by
      show (((1#1 : BitVec 1).toNat : ℝ) : EReal) = 1
      norm_num
    rw [e1, mul_one]
    congr 4
    rw [rolled_apply, from300_back _ _ h, WordCmp.toInt_ofNat_of_lt (by omega)]
    simp; omega
  · have e0 : keeps (s (ix1 b)) k = 0#1 := by
      rcases BitVec.eq_zero_or_eq_one (keeps (s (ix1 b)) k) with e | e
      · exact e
      · exact absurd ((keeps_iff _ _).1 e) h
    have e1 : (FloatOps.uitofp (F := Ideal) .f32 (0#1 : BitVec 1)) = (0 : EReal) := by
      show (((0#1 : BitVec 1).toNat : ℝ) : EReal) = 0
      norm_num
    rw [e0, e1, mul_zero, zero_mul]

/-- The reference's sum along a row. -/
theorem terms_sum (lp p : FVec Ideal S16384x300 .f32) (s : IVec S16384 32) (b : Fin 16384) :
    (∑ k : Fin 300, terms lp p s (ix2 b k)) = along (s (ix1 b)).toInt (fun m => p (ix2 b m)) (fun k => lp (ix2 b k)) := by
  rw [along_eq]
  exact Finset.sum_congr rfl fun k _ => terms_apply lp p s b k

end Reference

end Cert.Value
-- ==== Proof.Parts.lean ====
/- What the SparseCore's tasks write, as sums: lane l of a task's part is the sum, over the task's four chunks and each
   chunk's eight groups, of what row 512·w + 128·t1 + 16·t2 + l gives, and all the parts together are the sum over the
   rows. -/
module

public import proofs.«01_k».proof.Proof.MainIdeal
public import proofs.«01_k».proof.Proof.Roll
public import Idealize.ShloMosaic.Lib.Pipeline.ValueKit.Acc

@[expose] public section

noncomputable section

namespace Cert.Value

open Idealize.ShloMosaic
open Cert.KernelIdeal Cert.KernelIdeal.Run

/-- A fold whose every step adds a number at an index adds their sum there. -/
theorem upTo_sum {N : ℕ} (f : Fin N → FVec Ideal S16 .f32 → FVec Ideal S16 .f32) (x : S16.Idx) (g : ℕ → EReal)
    (hf : ∀ t acc, f t acc x = acc x + g t.val) (a : FVec Ideal S16 .f32) :
    upTo f a N x = a x + ∑ t ∈ Finset.range N, g t := by
  have key : ∀ n ≤ N, upTo f a n x = a x + ∑ t ∈ Finset.range n, g t := by
    intro n
    induction n with
    | zero => intro _; show a x = _; rw [Finset.sum_range_zero, add_zero]
    | succ k ih =>
      intro hk
      rw [show upTo f a (k + 1) = f ⟨k, hk⟩ (upTo f a k) from upTo_succ f a ⟨k, hk⟩, hf, ih (by omega), Finset.sum_range_succ, add_assoc]
  exact key N le_rfl

/-- A run of A·S numbers is A runs of S. -/
theorem sum_split (A S : ℕ) (f : ℕ → EReal) :
    ∑ n ∈ Finset.range (A * S), f n = ∑ a ∈ Finset.range A, ∑ k ∈ Finset.range S, f (a * S + k) := by
  induction A with
  | zero => simp
  | succ A ih => rw [Nat.succ_mul, Finset.sum_range_add, ih, Finset.sum_range_succ]

/-- The number a row of a chunk gives at a class, the class a natural number. -/
def meets (s : ℤ) (p lp : Fin 300 → EReal) (m : ℕ) : EReal :=
  if h : m < 300 ∧ 0 ≤ s + m ∧ s + m < 300 then p ⟨m, h.1⟩ * lp ⟨(s + m).toNat, by omega⟩ else 0

/-- Summed over the classes it is the row's sum. -/
theorem meets_sum (s : ℤ) (p lp : Fin 300 → EReal) : ∑ m ∈ Finset.range 300, meets s p lp m = along s p lp := by
  rw [← Fin.sum_univ_eq_sum_range (meets s p lp) 300]
  refine Finset.sum_congr rfl fun m _ => ?_
  unfold meets
  have hm := m.isLt
  by_cases h : 0 ≤ s + m.val ∧ s + m.val < 300
  · rw [dif_pos ⟨hm, h⟩, dif_pos h]
  · rw [dif_neg (fun h' => h h'.2), dif_neg h]

/-- The row a lane of a group reads. -/
theorem row_eq : ∀ (t2 : Fin k1_t2_loop.trips) (l : Fin 16), (Gen.k1_pay2 t2 (ix1 l)).toNat = 16 * t2.val + l.val := by
  decide +kernel

/-- The trips are these many. -/
theorem trips1 : k1_t1_loop.trips = 4 := by decide +kernel
theorem trips2 : k1_t2_loop.trips = 8 := by decide +kernel
theorem trips3 : k1_t3_loop.trips = 300 := by decide +kernel

/-- The induction word of a class is the class. -/
theorem iv_eq (t3 : Fin k1_t3_loop.trips) : Scf.iv 0#32 1#32 t3.val = BitVec.ofNat 32 t3.val := by
  revert t3; decide +kernel

/-- A row of a group inside its chunk. -/
abbrev rowIn (t2 : Fin k1_t2_loop.trips) (l : Fin 16) : Fin 128 :=
  ⟨16 * t2.val + l.val, by have h := t2.isLt.trans_eq trips2; omega⟩

/-- One class at a lane: the accumulator with the product the class gives, if it gives one. -/
theorem step3_apply (A B : FVec Ideal S128x300 .f32) (t2 : Fin k1_t2_loop.trips) (v : IVec S16 32) (t3 : Fin k1_t3_loop.trips)
    (acc : FVec Ideal S16 .f32) (l : Fin 16) :
    step3 (F := Ideal) A B t2 v t3 acc (ix1 l) = acc (ix1 l)
      + meets (v (ix1 l)).toInt (fun m => B (ix2 (rowIn t2 l) m)) (fun k => A (ix2 (rowIn t2 l) k)) t3.val := by
  have h3 : t3.val < 300 := t3.isLt.trans_eq trips3
  have eB : loadIdx (F := Ideal) (e := .f32) B ![Gen.k1_pay2 t2, broadcast S16 (Scf.iv 0#32 1#32 t3.val)] (k1_idx2_inb _ _ (chk2_ok t2 t3)) (ix1 l)
      = B (ix2 (rowIn t2 l) ⟨t3.val, h3⟩) := by
    refine congrArg B (funext fun a => Fin.ext ?_)
    match a with
    | 0 => exact row_eq t2 l
    | 1 =>
      show (Scf.iv 0#32 1#32 t3.val).toNat = t3.val
      rw [iv_eq, BitVec.toNat_ofNat]; omega
  have eS : step3 (F := Ideal) A B t2 v t3 acc (ix1 l) = acc (ix1 l)
      + Scalar.select (hits (v (ix1 l)) ⟨t3.val, h3⟩)
        (loadIdx (F := Ideal) (e := .f32) B ![Gen.k1_pay2 t2, broadcast S16 (Scf.iv 0#32 1#32 t3.val)] (k1_idx2_inb _ _ (chk2_ok t2 t3)) (ix1 l)
          * loadIdx (F := Ideal) (e := .f32) A ![Gen.k1_pay2 t2, Gen.k1_pay5 (F := Ideal) v t3] (k1_idx1_inb _ _ (chk1_ok t2 v t3)) (ix1 l)) 0 := by
    unfold step3 hits
    rw [← iv_eq t3]
    pointwise [Gen.k1_pay6, Gen.k1_pay4, Gen.k1_pay5]
  rw [eS, eB]
  refine congrArg (acc (ix1 l) + ·) ?_
  unfold meets Scalar.select
  by_cases h : hits (v (ix1 l)) ⟨t3.val, h3⟩ = 1#1
  · have hh := (hits_iff _ _).1 h
    have eA : loadIdx (F := Ideal) (e := .f32) A ![Gen.k1_pay2 t2, Gen.k1_pay5 (F := Ideal) v t3] (k1_idx1_inb _ _ (chk1_ok t2 v t3)) (ix1 l)
        = A (ix2 (rowIn t2 l) ⟨((v (ix1 l)).toInt + t3.val).toNat, by have := hh.1; have := hh.2; simp only at *; omega⟩) := by
      refine congrArg A (funext fun a => Fin.ext ?_)
      match a with
      | 0 => exact row_eq t2 l
      | 1 =>
        have e : Gen.k1_pay5 (F := Ideal) v t3 (ix1 l) = bring (v (ix1 l)) ⟨t3.val, h3⟩ := by
          unfold bring
          rw [← iv_eq t3]
          pointwise [Gen.k1_pay5, Gen.k1_pay4]
        show (Gen.k1_pay5 (F := Ideal) v t3 (ix1 l)).toNat = _
        rw [e, bring_eq _ _ hh]; rfl
    rw [dif_pos ⟨h3, hh⟩, eA]
    exact if_pos h
  · rw [dif_neg (fun h' => h ((hits_iff _ _).2 h'.2))]
    exact if_neg h

/-- One group at a lane: the accumulator with its row's sum. -/
theorem step2_apply (A B : FVec Ideal S128x300 .f32) (s : IVec S128 32) (t2 : Fin k1_t2_loop.trips) (acc : FVec Ideal S16 .f32) (l : Fin 16) :
    step2 (F := Ideal) A B s t2 acc (ix1 l) = acc (ix1 l)
      + along (s (ix1 (rowIn t2 l))).toInt (fun m => B (ix2 (rowIn t2 l) m)) (fun k => A (ix2 (rowIn t2 l) k)) := by
  have eL : lanes (F := Ideal) s t2 (ix1 l) = s (ix1 (rowIn t2 l)) := by
    refine congrArg s (funext fun a => Fin.ext ?_)
    match a with
    | 0 =>
      show k1_off3 t2 0 + 1 * l.val = 16 * t2.val + l.val
      rw [Gen.k1_off3_eq, one_mul]; rfl
  have e0 : Gen.k1_pay3 (F := Ideal) (ix1 l) = 0 := by pointwise [Gen.k1_pay3]
  have e7 : ∀ X : FVec Ideal S16 .f32, Gen.k1_pay7 (F := Ideal) acc X (ix1 l) = acc (ix1 l) + X (ix1 l) := by
    intro X; pointwise [Gen.k1_pay7]
  unfold step2
  rw [e7, upTo_sum _ (ix1 l) _ (fun t a => step3_apply A B t2 (lanes (F := Ideal) s t2) t a l), e0, zero_add, trips3, meets_sum, eL]

/-- What a row gives, the row a natural number. -/
def rowSum (lp p : FVec Ideal S16384x300 .f32) (s : IVec S16384 32) (n : ℕ) : EReal :=
  if h : n < 16384 then along (s (ix1 ⟨n, h⟩)).toInt (fun m => p (ix2 ⟨n, h⟩ m)) (fun k => lp (ix2 ⟨n, h⟩ k)) else 0

/-- One chunk at a lane: the accumulator with its eight rows' sums. -/
theorem step1_apply (lp p : FVec Ideal S16384x300 .f32) (s : IVec S16384 32) (L : grid1.Coords) (t1 : Fin k1_t1_loop.trips)
    (acc : FVec Ideal S16 .f32) (l : Fin 16) :
    step1 (F := Ideal) lp p s L t1 acc (ix1 l) = acc (ix1 l)
      + ∑ t2 ∈ Finset.range 8, rowSum lp p s ((16 * (L 0).val + (L 1).val) * 512 + (t1.val * 128 + (t2 * 16 + l.val))) := by
  have hc : (L 0).val < 2 := (L 0).isLt
  have hi : (L 1).val < 16 := (L 1).isLt
  have h1 : t1.val < 4 := t1.isLt.trans_eq trips1
  unfold step1
  rw [upTo_sum _ (ix1 l) (fun t2 => rowSum lp p s ((16 * (L 0).val + (L 1).val) * 512 + (t1.val * 128 + (t2 * 16 + l.val)))) ?_, trips2]
  intro t2 a
  have h2 : t2.val < 8 := t2.isLt.trans_eq trips2
  have hn : (16 * (L 0).val + (L 1).val) * 512 + (t1.val * 128 + (t2.val * 16 + l.val)) < 16384 := by omega
  have eC : ∀ (f : FVec Ideal S16384x300 .f32) (k : Fin 300), chunk (F := Ideal) f L t1 (ix2 (rowIn t2 l) k) = f (ix2 ⟨_, hn⟩ k) := by
    intro f k
    refine congrArg f (funext fun a => Fin.ext ?_)
    match a with
    | 0 =>
      show k1_off1 L t1 0 + 1 * (16 * t2.val + l.val) = (16 * (L 0).val + (L 1).val) * 512 + (t1.val * 128 + (t2.val * 16 + l.val))
      rw [Gen.k1_off1_eq]
      show 8192 * (L 0).val + 512 * (L 1).val + 128 * t1.val + 1 * (16 * t2.val + l.val) = _
      omega
    | 1 =>
      show k1_off1 L t1 1 + 1 * k.val = k.val
      rw [Gen.k1_off1_eq]
      show 0 + 1 * k.val = k.val
      omega
  have eS : chunkS (F := Ideal) s L t1 (ix1 (rowIn t2 l)) = s (ix1 ⟨_, hn⟩) := by
    refine congrArg s (funext fun a => Fin.ext ?_)
    match a with
    | 0 =>
      show k1_off2 L t1 0 + 1 * (16 * t2.val + l.val) = (16 * (L 0).val + (L 1).val) * 512 + (t1.val * 128 + (t2.val * 16 + l.val))
      rw [Gen.k1_off2_eq]
      show 8192 * (L 0).val + 512 * (L 1).val + 128 * t1.val + 1 * (16 * t2.val + l.val) = _
      omega
  rw [step2_apply, eS]
  simp only [eC]
  unfold rowSum
  rw [dif_pos hn]

/-- A task's part at a lane. -/
theorem part_apply (lp p : FVec Ideal S16384x300 .f32) (s : IVec S16384 32) (L : grid1.Coords) (l : Fin 16) :
    part (F := Ideal) lp p s L (ix1 l)
      = ∑ t1 ∈ Finset.range 4, ∑ t2 ∈ Finset.range 8, rowSum lp p s ((16 * (L 0).val + (L 1).val) * 512 + (t1 * 128 + (t2 * 16 + l.val))) := by
  have e0 : Gen.k1_pay1 (F := Ideal) (ix1 l) = 0 := by pointwise [Gen.k1_pay1]
  unfold part
  rw [upTo_sum _ (ix1 l)
    (fun t1 => ∑ t2 ∈ Finset.range 8, rowSum lp p s ((16 * (L 0).val + (L 1).val) * 512 + (t1 * 128 + (t2 * 16 + l.val))))
    (fun t a => step1_apply lp p s L t a l), trips1, e0, zero_add]

/-- The parts at an index. -/
theorem partsFn_apply (lp p : FVec Ideal S16384x300 .f32) (s : IVec S16384 32) (x : S32x16.Idx) :
    partsFn (F := Ideal) lp p s x
      = ∑ t1 ∈ Finset.range 4, ∑ t2 ∈ Finset.range 8, rowSum lp p s ((x 0).val * 512 + (t1 * 128 + (t2 * 16 + (x 1).val))) := by
  unfold partsFn
  have hl : lane16 (x 1) = ix1 (x 1) := by funext a; match a with | 0 => rfl
  rw [hl]
  refine (part_apply lp p s _ (x 1)).trans ?_
  show ∑ t1 ∈ Finset.range 4, ∑ t2 ∈ Finset.range 8,
    rowSum lp p s ((16 * ((x 0).val / 16) + (x 0).val % 16) * 512 + (t1 * 128 + (t2 * 16 + (x 1).val))) = _
  rw [Nat.div_add_mod]

/-- All the parts together are the sum over the rows. -/
theorem parts_sum (lp p : FVec Ideal S16384x300 .f32) (s : IVec S16384 32) :
    ∑ x : S32x16.Idx, partsFn (F := Ideal) lp p s x
      = ∑ b : Fin 16384, along (s (ix1 b)).toInt (fun m => p (ix2 b m)) (fun k => lp (ix2 b k)) := by
  have e1 : ∑ x : S32x16.Idx, partsFn (F := Ideal) lp p s x
      = ∑ w ∈ Finset.range 32, ∑ l ∈ Finset.range 16, ∑ t1 ∈ Finset.range 4, ∑ t2 ∈ Finset.range 8,
        rowSum lp p s (w * 512 + (t1 * 128 + (t2 * 16 + l))) := by
    rw [Finset.sum_congr rfl fun x _ => partsFn_apply lp p s x]
    exact Fin.sum_idx2_range ![32, 16] fun w l => ∑ t1 ∈ Finset.range 4, ∑ t2 ∈ Finset.range 8,
      rowSum lp p s (w * 512 + (t1 * 128 + (t2 * 16 + l)))
  have e2 : ∑ b : Fin 16384, along (s (ix1 b)).toInt (fun m => p (ix2 b m)) (fun k => lp (ix2 b k))
      = ∑ n ∈ Finset.range (32 * 512), rowSum lp p s n := by
    refine Eq.trans (Finset.sum_congr rfl fun b _ => ?_) (Fin.sum_univ_eq_sum_range (rowSum lp p s) 16384)
    unfold rowSum
    rw [dif_pos b.isLt]
  rw [e1, e2, sum_split 32 512]
  refine Finset.sum_congr rfl fun w _ => ?_
  rw [show (512 : ℕ) = 4 * 128 from rfl, sum_split 4 128 fun k => rowSum lp p s (w * (4 * 128) + k), Finset.sum_comm]
  refine Finset.sum_congr rfl fun t1 _ => ?_
  rw [show (128 : ℕ) = 8 * 16 from rfl, sum_split 8 16 fun k => rowSum lp p s (w * (4 * (8 * 16)) + (t1 * (8 * 16) + k)), Finset.sum_comm]

end Cert.Value

end
-- ==== Proof.Equation.lean ====
/- The two results are one number: the kernel's, the parts' sum negated over the number of rows, and the reference's, the
   mean of the rows' sums negated, wherever z_i has no entry plus infinity. -/
module

public import proofs.«01_k».proof.Proof.Below
public import proofs.«01_k».proof.Proof.Parts

@[expose] public section

noncomputable section

namespace Cert.Value

open Idealize.ShloMosaic

/-- A sum over everything, as the host takes it. -/
theorem host_total {s t u : Shape} {axes : List (Fin s.rank)} (h : s.ReducesTo axes t) (hu : 0 < u.numel) (ht : ∀ b, t.size b = 1)
    (x : FVec Ideal s .f32) (init : FVec Ideal u .f32) (j : t.Idx) :
    Host.reduceAdd x init h hu j = init (Shape.Idx.first hu) + ∑ i : s.Idx, x i :=
  Ideal.hostReduceAdd_total h ht x (init (Shape.Idx.first hu)) j

/-- The constant the sums start from. -/
theorem zero_first {u : Shape} (i : u.Idx) : constant (F := Ideal) u .f32 0x00000000#32 i = 0 := Ideal.ofBits_zero_f32

/-- The number of rows as a float. -/
theorem bits_rows : Ideal.ofBits .f32 0x46800000#32 = ((16384 : ℝ) : EReal) := by
  have hn : ((0x46800000#32 : BitVec 32).extractLsb' (8 + 23) 1 == 1#1) = false := by decide
  have hx : ((0x46800000#32 : BitVec 32).extractLsb' 23 8).toNat = 141 := by decide
  have hf : ((0x46800000#32 : BitVec 32).extractLsb' 0 23).toNat = 0 := by decide
  show Ideal.ieee 8 23 (0x46800000#32 : BitVec 32) = _
  unfold Ideal.ieee
  simp only [hn, hx, hf]
  norm_num

/-- A negated number over the number of rows is the quotient negated. -/
theorem neg_over (x : EReal) : Ideal.div (-x) (Ideal.ofBits .f32 0x46800000#32) = -Ideal.div x (Ideal.ofBits .f32 0x46800000#32) := by
  rw [bits_rows, Ideal.div_coe (by norm_num), Ideal.div_coe (by norm_num), EReal.neg_mul]

section Kernel

open Cert.KernelIdeal Cert.KernelIdeal.Run

/-- The kernel's result from the parts. -/
def outFn (P : FVec Ideal S32x16 .f32) : FVec Ideal S_ .f32 :=
  Host.divf (Host.negf (Host.reduceAdd P (constant S_ .f32 0x00000000#32) Gen.reducesTo_S32x16_S_d0_1 Gen.h_S_)) (constant S_ .f32 0x46800000#32)

/-- It is the parts' sum, negated, over the number of rows. -/
theorem outFn_apply (P : FVec Ideal S32x16 .f32) (j : S_.Idx) :
    outFn P j = Ideal.div (-∑ x : S32x16.Idx, P x) (Ideal.ofBits .f32 0x46800000#32) := by
  have e := host_total Gen.reducesTo_S32x16_S_d0_1 Gen.h_S_ (fun b => b.elim0) P (constant (F := Ideal) S_ .f32 0x00000000#32) j
  rw [zero_first, zero_add] at e
  rw [← e]
  rfl

/-- The shifts as one axis, at a row. -/
theorem flat_apply (s : IVec S16384x1 32) (b : Fin 16384) :
    shapeCast S16384 s Gen.shapeCasts_S16384x1_S16384 (ix1 b) = s (ix2 b 0) := by
  pointwise

end Kernel

section Reference

open Cert.ReferenceIdeal Cert.ReferenceIdeal.Run

/-- The reference's result from its terms. -/
theorem loss_apply (t : FVec Ideal S16384x300 .f32) (j : S_.Idx) :
    loss t j = -Ideal.div (∑ b : Fin 16384, ∑ k : Fin 300, t (ix2 b k)) (Ideal.ofBits .f32 0x46800000#32) := by
  have e := host_total Gen.reducesTo_S16384_S_d0 Gen.h_S_ (fun b => b.elim0)
    (Host.reduceAdd t (constant (F := Ideal) S_ .f32 0x00000000#32) Gen.reducesTo_S16384x300_S16384_d1 Gen.h_S_)
    (constant (F := Ideal) S_ .f32 0x00000000#32) j
  rw [zero_first, zero_add] at e
  have e2 : ∑ x : S16384.Idx, Host.reduceAdd t (constant (F := Ideal) S_ .f32 0x00000000#32) Gen.reducesTo_S16384x300_S16384_d1 Gen.h_S_ x
      = ∑ b : Fin 16384, ∑ k : Fin 300, t (ix2 b k) := by
    refine Eq.trans (Finset.sum_congr rfl fun x _ => ?_) (Fin.sum_idx1 ![16384] fun b => ∑ k : Fin 300, t (ix2 b k))
    have hx : x = ix1 (x 0) := by funext a; match a with | 0 => rfl
    exact (congrArg _ hx).trans (sum_apply t (x 0))
  rw [← e2, ← e]
  rfl

end Reference

/-- The kernel's result is the reference's, wherever z_i has no entry plus infinity. -/
theorem equation (zi zj : FVec Ideal KernelIdeal.S16384x300 .f32) (ri rj : FVec Ideal KernelIdeal.S16384x1 .f32)
    (h : ∀ b k, zi (ix2 b k) < ⊤) :
    outFn (KernelIdeal.Run.partsFn (F := Ideal) (KernelIdeal.Run.lpFn (F := Ideal) zi) (KernelIdeal.Run.pFn (F := Ideal) zj)
      (shapeCast KernelIdeal.S16384 (KernelIdeal.Run.sFn (F := Ideal) ri rj) KernelIdeal.Gen.shapeCasts_S16384x1_S16384))
      = ReferenceIdeal.Run.REF (F := Ideal) zi zj ri rj := by
  funext j
  refine (outFn_apply _ j).trans (Eq.trans ?_ (loss_apply _ j).symm)
  rw [neg_over, parts_sum]
  refine congrArg (fun x => -Ideal.div x (Ideal.ofBits .f32 0x46800000#32)) (Finset.sum_congr rfl fun b _ => ?_)
  refine Eq.trans ?_ (terms_sum _ _ _ b).symm
  rw [flat_apply, shift_eq]
  simp only [logSoftmax_eq zi h, softmax_eq]

end Cert.Value

end
-- ==== Proof.lean ====
/- The claim of the certificate: the frames of the kernel at both float instances and of the reference, each the
   run proved in its own module with the values left out, and the equality of the two results at the ideal instance,
   the two runs with the equation between their values. -/
module

public import proofs.«01_k».proof.Defs
public import proofs.«01_k».proof.Proof.Main
public import proofs.«01_k».proof.Proof.MainIdeal
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel runs at the bit-exact instance: its frame is the run with the result's value left out. -/
theorem frame_kernel : Cert.quiescent_Kernel := fun m ρ _ =>
  (θ_run _ _ _).mono (fun _ h => ⟨fun c => (h.1 c).2, h.2⟩) (Cert.Kernel.Run.run_main (F := Bits) m ρ)

/-- The kernel runs at the ideal instance. -/
theorem frame_kernelIdeal : Cert.quiescent_KernelIdeal := fun m ρ _ =>
  (θ_run _ _ _).mono (fun _ h => ⟨fun c => (h.1 c).2, h.2⟩) (Cert.KernelIdeal.Run.run_main (F := Ideal) m ρ)

/-- The reference runs at the ideal instance. -/
theorem frame_referenceIdeal : Cert.quiescent_ReferenceIdeal := fun m ρ _ =>
  (θ_run _ _ _).mono (fun _ h => ⟨fun c => (h.1 c).2, h.2⟩) (Cert.ReferenceIdeal.Run.run (F := Ideal) m ρ)

/-- The two programs end with equal results, from memories that agree on the arguments and hold no plus infinity in z_i. -/
theorem algebraic [hPre : Cert.Pre_z_i_below_infinity.Facts] :
    Cert.algebraic_KernelIdeal_ReferenceIdeal_pre_z_i_below_infinity := by
  intro m g m' g' hpre hargs
  refine ⟨fun c => Cert.KernelIdeal.Run.outA (F := Ideal) m c,
    (θ_run _ _ _).mono (fun _ h => h.1) (Cert.KernelIdeal.Run.run_main (F := Ideal) m g),
    (θ_run _ _ _).mono (fun _ h c => ⟨(h.1 c).1.trans ?_, (h.1 c).2⟩) (Cert.ReferenceIdeal.Run.run (F := Ideal) m' g')⟩
  obtain ⟨h0, h1, h2, h3⟩ := hargs c
  rw [h0, h1, h2, h3]
  exact (Cert.Value.equation _ _ _ _ (Cert.Value.below _ _ _ _ (hpre c))).symm

theorem claim : Cert.Claim :=
  ⟨Cert.Kernel.Gen.facts, Cert.KernelIdeal.Gen.facts, Cert.ReferenceIdeal.Gen.facts, Cert.Value.preFacts,
    frame_kernel, frame_kernelIdeal, fun m g _ => frame_kernelIdeal m g trivial,
    frame_referenceIdeal, fun m g _ => frame_referenceIdeal m g trivial, trivial, algebraic (hPre := Cert.Value.preFacts)⟩

end Cert.Proof

end
